-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_inside [hPre_inside : Cert.Pre_inside.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_inside.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_inside [hPre_inside : Cert.Pre_inside.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_inside.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_inside [hKernel2Ideal : Cert.Kernel2Ideal.Facts] [hPre_inside : Cert.Pre_inside.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_inside m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_inside [hReference2Ideal : Cert.Reference2Ideal.Facts] [hPre_inside : Cert.Pre_inside.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_inside m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_on_image_pre_finite [hKernelIdeal : Cert.KernelIdeal.Facts] [hReferenceIdeal : Cert.ReferenceIdeal.Facts] [hPre_finite : Cert.Pre_finite.Facts] [hOn_image : Cert.On_image.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![225, 160, 160]⟩ : Shape).Idx, (Cert.On_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![225, 160, 160]⟩ : Shape).Idx, (Cert.On_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v302) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_on_image2_pre_inside [hKernel2Ideal : Cert.Kernel2Ideal.Facts] [hReference2Ideal : Cert.Reference2Ideal.Facts] [hPre_inside : Cert.Pre_inside.Facts] [hOn_image2 : Cert.On_image2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_inside m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![3, 160, 160]⟩ : Shape).Idx, (Cert.On_image2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) i = 1#1 → r.2.mem ((c.tc : Thread Cert.Kernel2Ideal.nD Cert.Kernel2Ideal.τ).loc Cert.Kernel2Ideal.main_v13) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![3, 160, 160]⟩ : Shape).Idx, (Cert.On_image2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) i = 1#1 → r.2.mem ((c.tc : Thread Cert.Reference2Ideal.nD Cert.Reference2Ideal.τ).loc Cert.Reference2Ideal.main_v299) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_inside : Cert.Pre_inside.Facts) (hOn_image : Cert.On_image.Facts) (hOn_image2 : Cert.On_image2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_inside (hKernel2Ideal := hKernel2Ideal) (hPre_inside := hPre_inside)
    ∧ quiescent_Reference2Ideal (hReference2Ideal := hReference2Ideal)
    ∧ quiescent_Reference2Ideal_pre_inside (hReference2Ideal := hReference2Ideal) (hPre_inside := hPre_inside)
    ∧ preserves_Kernel_KernelIdeal
    ∧ algebraic_KernelIdeal_ReferenceIdeal_on_image_pre_finite (hKernelIdeal := hKernelIdeal) (hReferenceIdeal := hReferenceIdeal) (hPre_finite := hPre_finite) (hOn_image := hOn_image)
    ∧ preserves_Kernel2_Kernel2Ideal
    ∧ algebraic_Kernel2Ideal_Reference2Ideal_on_image2_pre_inside (hKernel2Ideal := hKernel2Ideal) (hReference2Ideal := hReference2Ideal) (hPre_inside := hPre_inside) (hOn_image2 := hOn_image2)
-- ==== On_image.lean ====
abbrev S1x8x128x128 : Shape := ⟨4, ![1, 8, 128, 128]⟩
abbrev S225x160x160 : Shape := ⟨3, ![225, 160, 160]⟩
abbrev S_ : Shape := ⟨0, ![]⟩

class Facts : Prop where
  bcast_S_S225x160x160 : S_.BroadcastsInDim S225x160x160 (![] : Fin 0 → Fin S225x160x160.rank)

variable [Facts]

def fn {F : FTy → Type} [FloatOps F] (main_arg0 : FVec F S1x8x128x128 .f32) (main_arg1 : FVec F S1x8x128x128 .f32) : IVec S225x160x160 1 :=
  let main_v0 : IVec S225x160x160 32 := iotaInDim S225x160x160 32 1
  let main_v1 : IVec S225x160x160 32 := iotaInDim S225x160x160 32 2
  let main_c : IVec S_ 32 := constantI S_ 32 16#32
  let main_v2 : IVec S225x160x160 32 := broadcastInDim S225x160x160 ![] bcast_S_S225x160x160 main_c
  let main_v3 : IVec S225x160x160 1 := cmpi .sge main_v0 main_v2
  let main_c_0 : IVec S_ 32 := constantI S_ 32 146#32
  let main_v4 : IVec S225x160x160 32 := broadcastInDim S225x160x160 ![] bcast_S_S225x160x160 main_c_0
  let main_v5 : IVec S225x160x160 1 := cmpi .slt main_v0 main_v4
  let main_v6 : IVec S225x160x160 1 := andi main_v3 main_v5
  let main_c_1 : IVec S_ 32 := constantI S_ 32 16#32
  let main_v7 : IVec S225x160x160 32 := broadcastInDim S225x160x160 ![] bcast_S_S225x160x160 main_c_1
  let main_v8 : IVec S225x160x160 1 := cmpi .sge main_v1 main_v7
  let main_v9 : IVec S225x160x160 1 := andi main_v6 main_v8
  let main_c_2 : IVec S_ 32 := constantI S_ 32 146#32
  let main_v10 : IVec S225x160x160 32 := broadcastInDim S225x160x160 ![] bcast_S_S225x160x160 main_c_2
  let main_v11 : IVec S225x160x160 1 := cmpi .slt main_v1 main_v10
  let main_v12 : IVec S225x160x160 1 := andi main_v9 main_v11
  main_v12
-- ==== On_image2.lean ====
abbrev S1x3x128x128 : Shape := ⟨4, ![1, 3, 128, 128]⟩
abbrev S225x160x160 : Shape := ⟨3, ![225, 160, 160]⟩
abbrev S160x160 : Shape := ⟨2, ![160, 160]⟩
abbrev S3x160x160 : Shape := ⟨3, ![3, 160, 160]⟩
abbrev S_ : Shape := ⟨0, ![]⟩

class Facts : Prop where
  bcast_S_S3x160x160 : S_.BroadcastsInDim S3x160x160 (![] : Fin 0 → Fin S3x160x160.rank)

variable [Facts]

def fn {F : FTy → Type} [FloatOps F] (main_arg0 : FVec F S1x3x128x128 .f32) (main_arg1 : FVec F S225x160x160 .f32) (main_arg2 : FVec F S160x160 .f32) (main_arg3 : FVec F S160x160 .f32) (main_arg4 : FVec F S160x160 .f32) : IVec S3x160x160 1 :=
  let main_v0 : IVec S3x160x160 32 := iotaInDim S3x160x160 32 1
  let main_v1 : IVec S3x160x160 32 := iotaInDim S3x160x160 32 2
  let main_c : IVec S_ 32 := constantI S_ 32 16#32
  let main_v2 : IVec S3x160x160 32 := broadcastInDim S3x160x160 ![] bcast_S_S3x160x160 main_c
  let main_v3 : IVec S3x160x160 1 := cmpi .sge main_v0 main_v2
  let main_c_0 : IVec S_ 32 := constantI S_ 32 146#32
  let main_v4 : IVec S3x160x160 32 := broadcastInDim S3x160x160 ![] bcast_S_S3x160x160 main_c_0
  let main_v5 : IVec S3x160x160 1 := cmpi .slt main_v0 main_v4
  let main_v6 : IVec S3x160x160 1 := andi main_v3 main_v5
  let main_c_1 : IVec S_ 32 := constantI S_ 32 16#32
  let main_v7 : IVec S3x160x160 32 := broadcastInDim S3x160x160 ![] bcast_S_S3x160x160 main_c_1
  let main_v8 : IVec S3x160x160 1 := cmpi .sge main_v1 main_v7
  let main_v9 : IVec S3x160x160 1 := andi main_v6 main_v8
  let main_c_2 : IVec S_ 32 := constantI S_ 32 146#32
  let main_v10 : IVec S3x160x160 32 := broadcastInDim S3x160x160 ![] bcast_S_S3x160x160 main_c_2
  let main_v11 : IVec S3x160x160 1 := cmpi .slt main_v1 main_v10
  let main_v12 : IVec S3x160x160 1 := andi main_v9 main_v11
  main_v12
-- ==== Pre_finite.lean ====
abbrev S1x8x128x128 : Shape := ⟨4, ![1, 8, 128, 128]⟩
abbrev S_ : Shape := ⟨0, ![]⟩

class Facts : Prop where
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  h_S_ : 0 < S_.numel

variable [Facts]

def fn {F : FTy → Type} [FloatOps F] (main_arg0 : FVec F S1x8x128x128 .f32) (main_arg1 : FVec F S1x8x128x128 .f32) : IVec S_ 1 :=
  let main_v0 : FVec F S1x8x128x128 .f32 := Host.absf main_arg0
  let main_cst : FVec F S_ .f32 := constant S_ .f32 0x7F800000#32
  let main_v1 : FVec F S1x8x128x128 .f32 := broadcastInDim S1x8x128x128 ![] bcast_S_S1x8x128x128 main_cst
  let main_v2 : IVec S1x8x128x128 1 := cmpf .olt main_v0 main_v1
  let main_c : IVec S_ 1 := constantI S_ 1 1#1
  let main_v3 : IVec S_ 1 := (fun x v => Host.reduce IntOp.andi x v reducesTo_S1x8x128x128_S_d0_1_2_3 h_S_) main_v2 main_c
  let main_v4 : FVec F S1x8x128x128 .f32 := Host.absf main_arg1
  let main_cst_0 : FVec F S_ .f32 := constant S_ .f32 0x7F800000#32
  let main_v5 : FVec F S1x8x128x128 .f32 := broadcastInDim S1x8x128x128 ![] bcast_S_S1x8x128x128 main_cst_0
  let main_v6 : IVec S1x8x128x128 1 := cmpf .olt main_v4 main_v5
  let main_c_1 : IVec S_ 1 := constantI S_ 1 1#1
  let main_v7 : IVec S_ 1 := (fun x v => Host.reduce IntOp.andi x v reducesTo_S1x8x128x128_S_d0_1_2_3 h_S_) main_v6 main_c_1
  let main_v8 : IVec S_ 1 := andi main_v3 main_v7
  main_v8
-- ==== Pre_inside.lean ====
abbrev S1x3x128x128 : Shape := ⟨4, ![1, 3, 128, 128]⟩
abbrev S225x160x160 : Shape := ⟨3, ![225, 160, 160]⟩
abbrev S160x160 : Shape := ⟨2, ![160, 160]⟩
abbrev S_ : Shape := ⟨0, ![]⟩

class Facts : Prop where
  bcast_S_S160x160 : S_.BroadcastsInDim S160x160 (![] : Fin 0 → Fin S160x160.rank)
  bcast_S_S1x3x128x128 : S_.BroadcastsInDim S1x3x128x128 (![] : Fin 0 → Fin S1x3x128x128.rank)
  reducesTo_S1x3x128x128_S_d0_1_2_3 : S1x3x128x128.ReducesTo [0, 1, 2, 3] S_
  h_S_ : 0 < S_.numel
  bcast_S_S225x160x160 : S_.BroadcastsInDim S225x160x160 (![] : Fin 0 → Fin S225x160x160.rank)
  reducesTo_S225x160x160_S_d0_1_2 : S225x160x160.ReducesTo [0, 1, 2] S_
  reducesTo_S160x160_S_d0_1 : S160x160.ReducesTo [0, 1] S_

variable [Facts]

def fn_part2 {F : FTy → Type} [FloatOps F] (main_v31 : IVec S_ 1) (main_v34 : IVec S160x160 1) : IVec S_ 1 :=
  let main_c_11 : IVec S_ 1 := constantI S_ 1 1#1
  let main_v35 : IVec S_ 1 := (fun x v => Host.reduce IntOp.andi x v reducesTo_S160x160_S_d0_1 h_S_) main_v34 main_c_11
  let main_v36 : IVec S_ 1 := andi main_v31 main_v35
  main_v36

def fn_part1 {F : FTy → Type} [FloatOps F] (main_arg3 : FVec F S160x160 .f32) (main_arg4 : FVec F S160x160 .f32) (main_v12 : IVec S160x160 1) (main_v16 : IVec S_ 1) (main_v17 : FVec F S225x160x160 .f32) : IVec S_ 1 :=
  let main_cst_4 : FVec F S_ .f32 := constant S_ .f32 0x7F800000#32
  let main_v18 : FVec F S225x160x160 .f32 := broadcastInDim S225x160x160 ![] bcast_S_S225x160x160 main_cst_4
  let main_v19 : IVec S225x160x160 1 := cmpf .olt main_v17 main_v18
  let main_c_5 : IVec S_ 1 := constantI S_ 1 1#1
  let main_v20 : IVec S_ 1 := (fun x v => Host.reduce IntOp.andi x v reducesTo_S225x160x160_S_d0_1_2 h_S_) main_v19 main_c_5
  let main_v21 : FVec F S160x160 .f32 := Host.absf main_arg3
  let main_cst_6 : FVec F S_ .f32 := constant S_ .f32 0x7F800000#32
  let main_v22 : FVec F S160x160 .f32 := broadcastInDim S160x160 ![] bcast_S_S160x160 main_cst_6
  let main_v23 : IVec S160x160 1 := cmpf .olt main_v21 main_v22
  let main_c_7 : IVec S_ 1 := constantI S_ 1 1#1
  let main_v24 : IVec S_ 1 := (fun x v => Host.reduce IntOp.andi x v reducesTo_S160x160_S_d0_1 h_S_) main_v23 main_c_7
  let main_v25 : FVec F S160x160 .f32 := Host.absf main_arg4
  let main_cst_8 : FVec F S_ .f32 := constant S_ .f32 0x7F800000#32
  let main_v26 : FVec F S160x160 .f32 := broadcastInDim S160x160 ![] bcast_S_S160x160 main_cst_8
  let main_v27 : IVec S160x160 1 := cmpf .olt main_v25 main_v26
  let main_c_9 : IVec S_ 1 := constantI S_ 1 1#1
  let main_v28 : IVec S_ 1 := (fun x v => Host.reduce IntOp.andi x v reducesTo_S160x160_S_d0_1 h_S_) main_v27 main_c_9
  let main_v29 : IVec S_ 1 := andi main_v16 main_v20
  let main_v30 : IVec S_ 1 := andi main_v29 main_v24
  let main_v31 : IVec S_ 1 := andi main_v30 main_v28
  let main_cst_10 : FVec F S_ .f32 := constant S_ .f32 0x00000000#32
  let main_v32 : FVec F S160x160 .f32 := broadcastInDim S160x160 ![] bcast_S_S160x160 main_cst_10
  let main_v33 : IVec S160x160 1 := cmpf .oeq main_arg4 main_v32
  let main_v34 : IVec S160x160 1 := ori main_v12 main_v33
  fn_part2 (F := F) main_v31 main_v34

def fn {F : FTy → Type} [FloatOps F] (main_arg0 : FVec F S1x3x128x128 .f32) (main_arg1 : FVec F S225x160x160 .f32) (main_arg2 : FVec F S160x160 .f32) (main_arg3 : FVec F S160x160 .f32) (main_arg4 : FVec F S160x160 .f32) : IVec S_ 1 :=
  let main_v0 : IVec S160x160 32 := iotaInDim S160x160 32 0
  let main_v1 : IVec S160x160 32 := iotaInDim S160x160 32 1
  let main_c : IVec S_ 32 := constantI S_ 32 16#32
  let main_v2 : IVec S160x160 32 := broadcastInDim S160x160 ![] bcast_S_S160x160 main_c
  let main_v3 : IVec S160x160 1 := cmpi .sge main_v0 main_v2
  let main_c_0 : IVec S_ 32 := constantI S_ 32 146#32
  let main_v4 : IVec S160x160 32 := broadcastInDim S160x160 ![] bcast_S_S160x160 main_c_0
  let main_v5 : IVec S160x160 1 := cmpi .slt main_v0 main_v4
  let main_v6 : IVec S160x160 1 := andi main_v3 main_v5
  let main_c_1 : IVec S_ 32 := constantI S_ 32 16#32
  let main_v7 : IVec S160x160 32 := broadcastInDim S160x160 ![] bcast_S_S160x160 main_c_1
  let main_v8 : IVec S160x160 1 := cmpi .sge main_v1 main_v7
  let main_v9 : IVec S160x160 1 := andi main_v6 main_v8
  let main_c_2 : IVec S_ 32 := constantI S_ 32 146#32
  let main_v10 : IVec S160x160 32 := broadcastInDim S160x160 ![] bcast_S_S160x160 main_c_2
  let main_v11 : IVec S160x160 1 := cmpi .slt main_v1 main_v10
  let main_v12 : IVec S160x160 1 := andi main_v9 main_v11
  let main_v13 : FVec F S1x3x128x128 .f32 := Host.absf main_arg0
  let main_cst : FVec F S_ .f32 := constant S_ .f32 0x7F800000#32
  let main_v14 : FVec F S1x3x128x128 .f32 := broadcastInDim S1x3x128x128 ![] bcast_S_S1x3x128x128 main_cst
  let main_v15 : IVec S1x3x128x128 1 := cmpf .olt main_v13 main_v14
  let main_c_3 : IVec S_ 1 := constantI S_ 1 1#1
  let main_v16 : IVec S_ 1 := (fun x v => Host.reduce IntOp.andi x v reducesTo_S1x3x128x128_S_d0_1_2_3 h_S_) main_v15 main_c_3
  let main_v17 : FVec F S225x160x160 .f32 := Host.absf main_arg1
  fn_part1 (F := F) main_arg3 main_arg4 main_v12 main_v16 main_v17
-- ==== Kernel.lean ====
abbrev S1x8x128x128 : Shape := ⟨4, ![1, 8, 128, 128]⟩
abbrev S8x128x128 : Shape := ⟨3, ![8, 128, 128]⟩
abbrev S_ : Shape := ⟨0, ![]⟩
abbrev S8x160x160 : Shape := ⟨3, ![8, 160, 160]⟩
abbrev S15x160x160 : Shape := ⟨3, ![15, 160, 160]⟩
abbrev S225x160x160 : Shape := ⟨3, ![225, 160, 160]⟩
abbrev S15x8x160x160 : Shape := ⟨4, ![15, 8, 160, 160]⟩
abbrev S160x160 : Shape := ⟨2, ![160, 160]⟩
abbrev S1x8x160x160 : Shape := ⟨4, ![1, 8, 160, 160]⟩
abbrev S160x128 : Shape := ⟨2, ![160, 128]⟩
abbrev S160x1 : Shape := ⟨2, ![160, 1]⟩
abbrev S8x160 : Shape := ⟨2, ![8, 160]⟩
abbrev S1x160x160 : Shape := ⟨3, ![1, 160, 160]⟩
abbrev S1x160 : Shape := ⟨2, ![1, 160]⟩

abbrev nBuf : Space → Nat
  | .hbm => 33
  | .vmem => 8
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S8x128x128, .f32⟩
  | .hbm, ⟨3, _⟩ => ⟨S_, .i32⟩
  | .hbm, ⟨4, _⟩ => ⟨S_, .f32⟩
  | .hbm, ⟨5, _⟩ => ⟨S8x160x160, .f32⟩
  | .hbm, ⟨6, _⟩ => ⟨S8x128x128, .f32⟩
  | .hbm, ⟨7, _⟩ => ⟨S_, .i32⟩
  | .hbm, ⟨8, _⟩ => ⟨S_, .f32⟩
  | .hbm, ⟨9, _⟩ => ⟨S8x160x160, .f32⟩
  | .hbm, ⟨10, _⟩ => ⟨S15x160x160, .i32⟩
  | .hbm, ⟨11, _⟩ => ⟨S15x160x160, .i32⟩
  | .hbm, ⟨12, _⟩ => ⟨S15x160x160, .i32⟩
  | .hbm, ⟨13, _⟩ => ⟨S15x160x160, .i32⟩
  | .hbm, ⟨14, _⟩ => ⟨S_, .i32⟩
  | .hbm, ⟨15, _⟩ => ⟨S15x160x160, .i32⟩
  | .hbm, ⟨16, _⟩ => ⟨S15x160x160, .i32⟩
  | .hbm, ⟨17, _⟩ => ⟨S15x160x160, .i32⟩
  | .hbm, ⟨18, _⟩ => ⟨S_, .i32⟩
  | .hbm, ⟨19, _⟩ => ⟨S15x160x160, .i32⟩
  | .hbm, ⟨20, _⟩ => ⟨S15x160x160, .i1⟩
  | .hbm, ⟨21, _⟩ => ⟨S15x160x160, .i32⟩
  | .hbm, ⟨22, _⟩ => ⟨S_, .i32⟩
  | .hbm, ⟨23, _⟩ => ⟨S15x160x160, .i32⟩
  | .hbm, ⟨24, _⟩ => ⟨S15x160x160, .i32⟩
  | .hbm, ⟨25, _⟩ => ⟨S15x160x160, .i32⟩
  | .hbm, ⟨26, _⟩ => ⟨S_, .i32⟩
  | .hbm, ⟨27, _⟩ => ⟨S15x160x160, .i32⟩
  | .hbm, ⟨28, _⟩ => ⟨S15x160x160, .i1⟩
  | .hbm, ⟨29, _⟩ => ⟨S15x160x160, .i1⟩
  | .hbm, ⟨30, _⟩ => ⟨S15x160x160, .f32⟩
  | .hbm, ⟨31, _⟩ => ⟨S15x160x160, .bf16⟩
  | .hbm, ⟨32, _⟩ => ⟨S225x160x160, .f32⟩
  | .local _ .vmem, ⟨0, _⟩ => ⟨S8x160x160, .f32⟩
  | .local _ .vmem, ⟨1, _⟩ => ⟨S8x160x160, .f32⟩
  | .local _ .vmem, ⟨2, _⟩ => ⟨S15x160x160, .bf16⟩
  | .local _ .vmem, ⟨3, _⟩ => ⟨S15x160x160, .f32⟩
  | .local _ .vmem, ⟨4, _⟩ => ⟨S15x160x160, .f32⟩
  | .local _ .vmem, ⟨5, _⟩ => ⟨S15x8x160x160, .f32⟩
  | .local _ .vmem, ⟨6, _⟩ => ⟨S160x160, .f32⟩
  | .local _ .vmem, ⟨7, _⟩ => ⟨S160x160, .f32⟩
  | _, _ => ⟨S1x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_c : Ref sig .tc := ⟨.hbm, 3, rfl⟩
abbrev main_call0_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_c_0 : Ref sig .tc := ⟨.hbm, 7, rfl⟩
abbrev main_call0_call1_v0 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_c_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_2 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_c_3 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_c_4 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_v0 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![15], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x160x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x160x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S15x160x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S15x160x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x8x128x128 : Shape := ⟨4, ![1, 8, 128, 128]⟩
abbrev S8x128x128 : Shape := ⟨3, ![8, 128, 128]⟩
abbrev S_ : Shape := ⟨0, ![]⟩
abbrev S8x130x130 : Shape := ⟨3, ![8, 130, 130]⟩
abbrev S130x130 : Shape := ⟨2, ![130, 130]⟩
abbrev S139x139 : Shape := ⟨2, ![139, 139]⟩
abbrev S130x139 : Shape := ⟨2, ![130, 139]⟩
abbrev S8x144x144 : Shape := ⟨3, ![8, 144, 144]⟩
abbrev S8x130x144 : Shape := ⟨3, ![8, 130, 144]⟩
abbrev S1x8x130x144 : Shape := ⟨4, ![1, 8, 130, 144]⟩
abbrev S15x8x130x144 : Shape := ⟨4, ![15, 8, 130, 144]⟩
abbrev S15x8x130x130 : Shape := ⟨4, ![15, 8, 130, 130]⟩
abbrev S15x1x8x130x130 : Shape := ⟨5, ![15, 1, 8, 130, 130]⟩
abbrev S15x15x8x130x130 : Shape := ⟨5, ![15, 15, 8, 130, 130]⟩
abbrev S1x1x8x130x130 : Shape := ⟨5, ![1, 1, 8, 130, 130]⟩
abbrev S15x15x130x130 : Shape := ⟨4, ![15, 15, 130, 130]⟩
abbrev S15x15x139x139 : Shape := ⟨4, ![15, 15, 139, 139]⟩
abbrev S15x15x130x139 : Shape := ⟨4, ![15, 15, 130, 139]⟩
abbrev S144x144 : Shape := ⟨2, ![144, 144]⟩
abbrev S130x144 : Shape := ⟨2, ![130, 144]⟩
abbrev S1x130x144 : Shape := ⟨3, ![1, 130, 144]⟩
abbrev S15x130x144 : Shape := ⟨3, ![15, 130, 144]⟩
abbrev S15x130x130 : Shape := ⟨3, ![15, 130, 130]⟩
abbrev S15x1x130x130 : Shape := ⟨4, ![15, 1, 130, 130]⟩
abbrev S1x1x130x130 : Shape := ⟨4, ![1, 1, 130, 130]⟩
abbrev S225x130x130 : Shape := ⟨3, ![225, 130, 130]⟩
abbrev S225x160x160 : Shape := ⟨3, ![225, 160, 160]⟩

abbrev nBuf : Space → Nat
  | .hbm => 342
  | .vmem => 0
  | .smem => 0
  | _ => 0

abbrev hbmTy0_0 (i : Nat) : BufTy := match i % 128 with
  | 0 => ⟨S1x8x128x128, .f32⟩
  | 1 => ⟨S1x8x128x128, .f32⟩
  | 2 => ⟨S8x128x128, .f32⟩
  | 3 => ⟨S_, .i32⟩
  | 4 => ⟨S_, .f32⟩
  | 5 => ⟨S8x130x130, .f32⟩
  | 6 => ⟨S8x128x128, .f32⟩
  | 7 => ⟨S_, .i32⟩
  | 8 => ⟨S_, .f32⟩
  | 9 => ⟨S8x130x130, .f32⟩
  | 10 => ⟨S8x130x130, .f32⟩
  | 11 => ⟨S_, .f32⟩
  | 12 => ⟨S130x130, .f32⟩
  | 13 => ⟨S_, .i32⟩
  | 14 => ⟨S_, .f32⟩
  | 15 => ⟨S139x139, .f32⟩
  | 16 => ⟨S130x139, .f32⟩
  | 17 => ⟨S_, .f32⟩
  | 18 => ⟨S130x139, .f32⟩
  | 19 => ⟨S130x139, .f32⟩
  | 20 => ⟨S130x139, .f32⟩
  | 21 => ⟨S130x139, .f32⟩
  | 22 => ⟨S130x139, .f32⟩
  | 23 => ⟨S130x139, .f32⟩
  | 24 => ⟨S130x139, .f32⟩
  | 25 => ⟨S130x139, .f32⟩
  | 26 => ⟨S130x139, .f32⟩
  | 27 => ⟨S130x139, .f32⟩
  | 28 => ⟨S130x139, .f32⟩
  | 29 => ⟨S130x139, .f32⟩
  | 30 => ⟨S130x139, .f32⟩
  | 31 => ⟨S130x139, .f32⟩
  | 32 => ⟨S130x139, .f32⟩
  | 33 => ⟨S130x139, .f32⟩
  | 34 => ⟨S130x139, .f32⟩
  | 35 => ⟨S130x139, .f32⟩
  | 36 => ⟨S130x139, .f32⟩
  | 37 => ⟨S130x139, .f32⟩
  | 38 => ⟨S130x130, .f32⟩
  | 39 => ⟨S_, .f32⟩
  | 40 => ⟨S130x130, .f32⟩
  | 41 => ⟨S130x130, .f32⟩
  | 42 => ⟨S130x130, .f32⟩
  | 43 => ⟨S130x130, .f32⟩
  | 44 => ⟨S130x130, .f32⟩
  | 45 => ⟨S130x130, .f32⟩
  | 46 => ⟨S130x130, .f32⟩
  | 47 => ⟨S130x130, .f32⟩
  | 48 => ⟨S130x130, .f32⟩
  | 49 => ⟨S130x130, .f32⟩
  | 50 => ⟨S130x130, .f32⟩
  | 51 => ⟨S130x130, .f32⟩
  | 52 => ⟨S130x130, .f32⟩
  | 53 => ⟨S130x130, .f32⟩
  | 54 => ⟨S130x130, .f32⟩
  | 55 => ⟨S130x130, .f32⟩
  | 56 => ⟨S130x130, .f32⟩
  | 57 => ⟨S130x130, .f32⟩
  | 58 => ⟨S130x130, .f32⟩
  | 59 => ⟨S130x130, .f32⟩
  | 60 => ⟨S8x130x130, .f32⟩
  | 61 => ⟨S_, .f32⟩
  | 62 => ⟨S130x130, .f32⟩
  | 63 => ⟨S_, .i32⟩
  | 64 => ⟨S_, .f32⟩
  | 65 => ⟨S139x139, .f32⟩
  | 66 => ⟨S130x139, .f32⟩
  | 67 => ⟨S_, .f32⟩
  | 68 => ⟨S130x139, .f32⟩
  | 69 => ⟨S130x139, .f32⟩
  | 70 => ⟨S130x139, .f32⟩
  | 71 => ⟨S130x139, .f32⟩
  | 72 => ⟨S130x139, .f32⟩
  | 73 => ⟨S130x139, .f32⟩
  | 74 => ⟨S130x139, .f32⟩
  | 75 => ⟨S130x139, .f32⟩
  | 76 => ⟨S130x139, .f32⟩
  | 77 => ⟨S130x139, .f32⟩
  | 78 => ⟨S130x139, .f32⟩
  | 79 => ⟨S130x139, .f32⟩
  | 80 => ⟨S130x139, .f32⟩
  | 81 => ⟨S130x139, .f32⟩
  | 82 => ⟨S130x139, .f32⟩
  | 83 => ⟨S130x139, .f32⟩
  | 84 => ⟨S130x139, .f32⟩
  | 85 => ⟨S130x139, .f32⟩
  | 86 => ⟨S130x139, .f32⟩
  | 87 => ⟨S130x139, .f32⟩
  | 88 => ⟨S130x130, .f32⟩
  | 89 => ⟨S_, .f32⟩
  | 90 => ⟨S130x130, .f32⟩
  | 91 => ⟨S130x130, .f32⟩
  | 92 => ⟨S130x130, .f32⟩
  | 93 => ⟨S130x130, .f32⟩
  | 94 => ⟨S130x130, .f32⟩
  | 95 => ⟨S130x130, .f32⟩
  | 96 => ⟨S130x130, .f32⟩
  | 97 => ⟨S130x130, .f32⟩
  | 98 => ⟨S130x130, .f32⟩
  | 99 => ⟨S130x130, .f32⟩
  | 100 => ⟨S130x130, .f32⟩
  | 101 => ⟨S130x130, .f32⟩
  | 102 => ⟨S130x130, .f32⟩
  | 103 => ⟨S130x130, .f32⟩
  | 104 => ⟨S130x130, .f32⟩
  | 105 => ⟨S130x130, .f32⟩
  | 106 => ⟨S130x130, .f32⟩
  | 107 => ⟨S130x130, .f32⟩
  | 108 => ⟨S130x130, .f32⟩
  | 109 => ⟨S130x130, .f32⟩
  | 110 => ⟨S_, .i32⟩
  | 111 => ⟨S_, .f32⟩
  | 112 => ⟨S8x144x144, .f32⟩
  | 113 => ⟨S8x130x144, .f32⟩
  | 114 => ⟨S8x130x144, .f32⟩
  | 115 => ⟨S8x130x144, .f32⟩
  | 116 => ⟨S8x130x144, .f32⟩
  | 117 => ⟨S8x130x144, .f32⟩
  | 118 => ⟨S8x130x144, .f32⟩
  | 119 => ⟨S8x130x144, .f32⟩
  | 120 => ⟨S8x130x144, .f32⟩
  | 121 => ⟨S8x130x144, .f32⟩
  | 122 => ⟨S8x130x144, .f32⟩
  | 123 => ⟨S8x130x144, .f32⟩
  | 124 => ⟨S8x130x144, .f32⟩
  | 125 => ⟨S8x130x144, .f32⟩
  | 126 => ⟨S8x130x144, .f32⟩
  | 127 => ⟨S8x130x144, .f32⟩
  | _ => ⟨S1x8x128x128, .f32⟩

abbrev hbmTy0_1 (i : Nat) : BufTy := match i % 128 with
  | 0 => ⟨S1x8x130x144, .f32⟩
  | 1 => ⟨S1x8x130x144, .f32⟩
  | 2 => ⟨S1x8x130x144, .f32⟩
  | 3 => ⟨S1x8x130x144, .f32⟩
  | 4 => ⟨S1x8x130x144, .f32⟩
  | 5 => ⟨S1x8x130x144, .f32⟩
  | 6 => ⟨S1x8x130x144, .f32⟩
  | 7 => ⟨S1x8x130x144, .f32⟩
  | 8 => ⟨S1x8x130x144, .f32⟩
  | 9 => ⟨S1x8x130x144, .f32⟩
  | 10 => ⟨S1x8x130x144, .f32⟩
  | 11 => ⟨S1x8x130x144, .f32⟩
  | 12 => ⟨S1x8x130x144, .f32⟩
  | 13 => ⟨S1x8x130x144, .f32⟩
  | 14 => ⟨S1x8x130x144, .f32⟩
  | 15 => ⟨S15x8x130x144, .f32⟩
  | 16 => ⟨S15x8x130x130, .f32⟩
  | 17 => ⟨S15x8x130x130, .f32⟩
  | 18 => ⟨S15x8x130x130, .f32⟩
  | 19 => ⟨S15x8x130x130, .f32⟩
  | 20 => ⟨S15x8x130x130, .f32⟩
  | 21 => ⟨S15x8x130x130, .f32⟩
  | 22 => ⟨S15x8x130x130, .f32⟩
  | 23 => ⟨S15x8x130x130, .f32⟩
  | 24 => ⟨S15x8x130x130, .f32⟩
  | 25 => ⟨S15x8x130x130, .f32⟩
  | 26 => ⟨S15x8x130x130, .f32⟩
  | 27 => ⟨S15x8x130x130, .f32⟩
  | 28 => ⟨S15x8x130x130, .f32⟩
  | 29 => ⟨S15x8x130x130, .f32⟩
  | 30 => ⟨S15x8x130x130, .f32⟩
  | 31 => ⟨S15x1x8x130x130, .f32⟩
  | 32 => ⟨S15x1x8x130x130, .f32⟩
  | 33 => ⟨S15x1x8x130x130, .f32⟩
  | 34 => ⟨S15x1x8x130x130, .f32⟩
  | 35 => ⟨S15x1x8x130x130, .f32⟩
  | 36 => ⟨S15x1x8x130x130, .f32⟩
  | 37 => ⟨S15x1x8x130x130, .f32⟩
  | 38 => ⟨S15x1x8x130x130, .f32⟩
  | 39 => ⟨S15x1x8x130x130, .f32⟩
  | 40 => ⟨S15x1x8x130x130, .f32⟩
  | 41 => ⟨S15x1x8x130x130, .f32⟩
  | 42 => ⟨S15x1x8x130x130, .f32⟩
  | 43 => ⟨S15x1x8x130x130, .f32⟩
  | 44 => ⟨S15x1x8x130x130, .f32⟩
  | 45 => ⟨S15x1x8x130x130, .f32⟩
  | 46 => ⟨S15x15x8x130x130, .f32⟩
  | 47 => ⟨S1x1x8x130x130, .f32⟩
  | 48 => ⟨S15x15x8x130x130, .f32⟩
  | 49 => ⟨S15x15x8x130x130, .f32⟩
  | 50 => ⟨S_, .f32⟩
  | 51 => ⟨S15x15x130x130, .f32⟩
  | 52 => ⟨S_, .i32⟩
  | 53 => ⟨S_, .f32⟩
  | 54 => ⟨S15x15x139x139, .f32⟩
  | 55 => ⟨S15x15x130x139, .f32⟩
  | 56 => ⟨S_, .f32⟩
  | 57 => ⟨S15x15x130x139, .f32⟩
  | 58 => ⟨S15x15x130x139, .f32⟩
  | 59 => ⟨S15x15x130x139, .f32⟩
  | 60 => ⟨S15x15x130x139, .f32⟩
  | 61 => ⟨S15x15x130x139, .f32⟩
  | 62 => ⟨S15x15x130x139, .f32⟩
  | 63 => ⟨S15x15x130x139, .f32⟩
  | 64 => ⟨S15x15x130x139, .f32⟩
  | 65 => ⟨S15x15x130x139, .f32⟩
  | 66 => ⟨S15x15x130x139, .f32⟩
  | 67 => ⟨S15x15x130x139, .f32⟩
  | 68 => ⟨S15x15x130x139, .f32⟩
  | 69 => ⟨S15x15x130x139, .f32⟩
  | 70 => ⟨S15x15x130x139, .f32⟩
  | 71 => ⟨S15x15x130x139, .f32⟩
  | 72 => ⟨S15x15x130x139, .f32⟩
  | 73 => ⟨S15x15x130x139, .f32⟩
  | 74 => ⟨S15x15x130x139, .f32⟩
  | 75 => ⟨S15x15x130x139, .f32⟩
  | 76 => ⟨S15x15x130x139, .f32⟩
  | 77 => ⟨S15x15x130x130, .f32⟩
  | 78 => ⟨S_, .f32⟩
  | 79 => ⟨S15x15x130x130, .f32⟩
  | 80 => ⟨S15x15x130x130, .f32⟩
  | 81 => ⟨S15x15x130x130, .f32⟩
  | 82 => ⟨S15x15x130x130, .f32⟩
  | 83 => ⟨S15x15x130x130, .f32⟩
  | 84 => ⟨S15x15x130x130, .f32⟩
  | 85 => ⟨S15x15x130x130, .f32⟩
  | 86 => ⟨S15x15x130x130, .f32⟩
  | 87 => ⟨S15x15x130x130, .f32⟩
  | 88 => ⟨S15x15x130x130, .f32⟩
  | 89 => ⟨S15x15x130x130, .f32⟩
  | 90 => ⟨S15x15x130x130, .f32⟩
  | 91 => ⟨S15x15x130x130, .f32⟩
  | 92 => ⟨S15x15x130x130, .f32⟩
  | 93 => ⟨S15x15x130x130, .f32⟩
  | 94 => ⟨S15x15x130x130, .f32⟩
  | 95 => ⟨S15x15x130x130, .f32⟩
  | 96 => ⟨S15x15x130x130, .f32⟩
  | 97 => ⟨S15x15x130x130, .f32⟩
  | 98 => ⟨S15x15x130x130, .f32⟩
  | 99 => ⟨S_, .i32⟩
  | 100 => ⟨S_, .f32⟩
  | 101 => ⟨S144x144, .f32⟩
  | 102 => ⟨S130x144, .f32⟩
  | 103 => ⟨S130x144, .f32⟩
  | 104 => ⟨S130x144, .f32⟩
  | 105 => ⟨S130x144, .f32⟩
  | 106 => ⟨S130x144, .f32⟩
  | 107 => ⟨S130x144, .f32⟩
  | 108 => ⟨S130x144, .f32⟩
  | 109 => ⟨S130x144, .f32⟩
  | 110 => ⟨S130x144, .f32⟩
  | 111 => ⟨S130x144, .f32⟩
  | 112 => ⟨S130x144, .f32⟩
  | 113 => ⟨S130x144, .f32⟩
  | 114 => ⟨S130x144, .f32⟩
  | 115 => ⟨S130x144, .f32⟩
  | 116 => ⟨S130x144, .f32⟩
  | 117 => ⟨S1x130x144, .f32⟩
  | 118 => ⟨S1x130x144, .f32⟩
  | 119 => ⟨S1x130x144, .f32⟩
  | 120 => ⟨S1x130x144, .f32⟩
  | 121 => ⟨S1x130x144, .f32⟩
  | 122 => ⟨S1x130x144, .f32⟩
  | 123 => ⟨S1x130x144, .f32⟩
  | 124 => ⟨S1x130x144, .f32⟩
  | 125 => ⟨S1x130x144, .f32⟩
  | 126 => ⟨S1x130x144, .f32⟩
  | 127 => ⟨S1x130x144, .f32⟩
  | _ => ⟨S1x8x128x128, .f32⟩

abbrev hbmTy0_2 (i : Nat) : BufTy := match i % 128 with
  | 0 => ⟨S1x130x144, .f32⟩
  | 1 => ⟨S1x130x144, .f32⟩
  | 2 => ⟨S1x130x144, .f32⟩
  | 3 => ⟨S1x130x144, .f32⟩
  | 4 => ⟨S15x130x144, .f32⟩
  | 5 => ⟨S15x130x130, .f32⟩
  | 6 => ⟨S15x130x130, .f32⟩
  | 7 => ⟨S15x130x130, .f32⟩
  | 8 => ⟨S15x130x130, .f32⟩
  | 9 => ⟨S15x130x130, .f32⟩
  | 10 => ⟨S15x130x130, .f32⟩
  | 11 => ⟨S15x130x130, .f32⟩
  | 12 => ⟨S15x130x130, .f32⟩
  | 13 => ⟨S15x130x130, .f32⟩
  | 14 => ⟨S15x130x130, .f32⟩
  | 15 => ⟨S15x130x130, .f32⟩
  | 16 => ⟨S15x130x130, .f32⟩
  | 17 => ⟨S15x130x130, .f32⟩
  | 18 => ⟨S15x130x130, .f32⟩
  | 19 => ⟨S15x130x130, .f32⟩
  | 20 => ⟨S15x1x130x130, .f32⟩
  | 21 => ⟨S15x1x130x130, .f32⟩
  | 22 => ⟨S15x1x130x130, .f32⟩
  | 23 => ⟨S15x1x130x130, .f32⟩
  | 24 => ⟨S15x1x130x130, .f32⟩
  | 25 => ⟨S15x1x130x130, .f32⟩
  | 26 => ⟨S15x1x130x130, .f32⟩
  | 27 => ⟨S15x1x130x130, .f32⟩
  | 28 => ⟨S15x1x130x130, .f32⟩
  | 29 => ⟨S15x1x130x130, .f32⟩
  | 30 => ⟨S15x1x130x130, .f32⟩
  | 31 => ⟨S15x1x130x130, .f32⟩
  | 32 => ⟨S15x1x130x130, .f32⟩
  | 33 => ⟨S15x1x130x130, .f32⟩
  | 34 => ⟨S15x1x130x130, .f32⟩
  | 35 => ⟨S15x15x130x130, .f32⟩
  | 36 => ⟨S1x1x130x130, .f32⟩
  | 37 => ⟨S15x15x130x130, .f32⟩
  | 38 => ⟨S15x15x130x130, .f32⟩
  | 39 => ⟨S_, .f32⟩
  | 40 => ⟨S15x15x130x130, .f32⟩
  | 41 => ⟨S15x15x130x130, .f32⟩
  | 42 => ⟨S15x15x130x130, .f32⟩
  | 43 => ⟨S15x15x130x130, .i32⟩
  | 44 => ⟨S_, .i32⟩
  | 45 => ⟨S15x15x130x130, .i32⟩
  | 46 => ⟨S15x15x130x130, .i32⟩
  | 47 => ⟨S15x15x130x130, .i32⟩
  | 48 => ⟨S_, .i32⟩
  | 49 => ⟨S15x15x130x130, .i32⟩
  | 50 => ⟨S15x15x130x130, .i32⟩
  | 51 => ⟨S15x15x130x130, .i32⟩
  | 52 => ⟨S15x15x130x130, .i32⟩
  | 53 => ⟨S15x15x130x130, .i32⟩
  | 54 => ⟨S15x15x130x130, .i32⟩
  | 55 => ⟨S_, .i32⟩
  | 56 => ⟨S15x15x130x130, .i32⟩
  | 57 => ⟨S15x15x130x130, .i1⟩
  | 58 => ⟨S_, .i32⟩
  | 59 => ⟨S15x15x130x130, .i32⟩
  | 60 => ⟨S15x15x130x130, .i1⟩
  | 61 => ⟨S15x15x130x130, .i1⟩
  | 62 => ⟨S_, .i32⟩
  | 63 => ⟨S15x15x130x130, .i32⟩
  | 64 => ⟨S15x15x130x130, .i1⟩
  | 65 => ⟨S15x15x130x130, .i1⟩
  | 66 => ⟨S_, .i32⟩
  | 67 => ⟨S15x15x130x130, .i32⟩
  | 68 => ⟨S15x15x130x130, .i1⟩
  | 69 => ⟨S15x15x130x130, .i1⟩
  | 70 => ⟨S_, .i32⟩
  | 71 => ⟨S15x15x130x130, .i32⟩
  | 72 => ⟨S15x15x130x130, .i1⟩
  | 73 => ⟨S_, .i32⟩
  | 74 => ⟨S15x15x130x130, .i32⟩
  | 75 => ⟨S15x15x130x130, .i1⟩
  | 76 => ⟨S15x15x130x130, .i1⟩
  | 77 => ⟨S15x15x130x130, .i1⟩
  | 78 => ⟨S_, .f32⟩
  | 79 => ⟨S_, .f32⟩
  | 80 => ⟨S15x15x130x130, .f32⟩
  | 81 => ⟨S15x15x130x130, .f32⟩
  | 82 => ⟨S225x130x130, .f32⟩
  | 83 => ⟨S_, .i32⟩
  | 84 => ⟨S_, .f32⟩
  | 85 => ⟨S225x160x160, .f32⟩
  | _ => ⟨S1x8x128x128, .f32⟩

abbrev hbmTy (i : Nat) : BufTy := match i / 128 with
  | 0 => hbmTy0_0 i
  | 1 => hbmTy0_1 i
  | 2 => hbmTy0_2 i
  | _ => ⟨S1x8x128x128, .f32⟩

abbrev bufTy : (tb : Table) → Fin (tcTables nBuf tb) → BufTy
  | .hbm, ⟨i, _⟩ => hbmTy i
  | _, _ => ⟨S1x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_v50 : Ref sig .tc := ⟨.hbm, 62, rfl⟩
abbrev main_c_5 : Ref sig .tc := ⟨.hbm, 63, rfl⟩
abbrev main_call3_v0 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_7 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_c_8 : Ref sig .tc := ⟨.hbm, 110, rfl⟩
abbrev main_call4_v0 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_cst_9 : Ref sig .tc := ⟨.hbm, 178, rfl⟩
abbrev main_v160 : Ref sig .tc := ⟨.hbm, 179, rfl⟩
abbrev main_c_10 : Ref sig .tc := ⟨.hbm, 180, rfl⟩
abbrev main_call5_v0 : Ref sig .tc := ⟨.hbm, 181, rfl⟩
abbrev main_v161 : Ref sig .tc := ⟨.hbm, 182, rfl⟩
abbrev main_v162 : Ref sig .tc := ⟨.hbm, 183, rfl⟩
abbrev main_cst_11 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_cst_12 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_c_13 : Ref sig .tc := ⟨.hbm, 227, rfl⟩
abbrev main_call6_v0 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_cst_14 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_c_15 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_c_16 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_c_17 : Ref sig .tc := ⟨.hbm, 311, rfl⟩
abbrev main_v283 : Ref sig .tc := ⟨.hbm, 312, rfl⟩
abbrev main_v284 : Ref sig .tc := ⟨.hbm, 313, rfl⟩
abbrev main_c_18 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_c_19 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_c_20 : Ref sig .tc := ⟨.hbm, 322, rfl⟩
abbrev main_v291 : Ref sig .tc := ⟨.hbm, 323, rfl⟩
abbrev main_v292 : Ref sig .tc := ⟨.hbm, 324, rfl⟩
abbrev main_v293 : Ref sig .tc := ⟨.hbm, 325, rfl⟩
abbrev main_c_21 : Ref sig .tc := ⟨.hbm, 326, rfl⟩
abbrev main_v294 : Ref sig .tc := ⟨.hbm, 327, rfl⟩
abbrev main_v295 : Ref sig .tc := ⟨.hbm, 328, rfl⟩
abbrev main_c_22 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_cst_23 : Ref sig .tc := ⟨.hbm, 334, rfl⟩
abbrev main_call7_v0 : Ref sig .tc := ⟨.hbm, 335, rfl⟩
abbrev main_call7_v1 : Ref sig .tc := ⟨.hbm, 336, rfl⟩
abbrev main_v300 : Ref sig .tc := ⟨.hbm, 337, rfl⟩
abbrev main_v301 : Ref sig .tc := ⟨.hbm, 338, rfl⟩
abbrev main_c_24 : Ref sig .tc := ⟨.hbm, 339, rfl⟩
abbrev main_call8_v0 : Ref sig .tc := ⟨.hbm, 340, rfl⟩
abbrev main_v302 : Ref sig .tc := ⟨.hbm, 341, rfl⟩

abbrev nD : Nat := 1
abbrev τ : Topo := Topo.v7x

variable {F : FTy → Type} [FloatOps F]
-- ==== Kernel2.lean ====
abbrev S1x3x128x128 : Shape := ⟨4, ![1, 3, 128, 128]⟩
abbrev S225x160x160 : Shape := ⟨3, ![225, 160, 160]⟩
abbrev S160x160 : Shape := ⟨2, ![160, 160]⟩
abbrev S3x128x128 : Shape := ⟨3, ![3, 128, 128]⟩
abbrev S_ : Shape := ⟨0, ![]⟩
abbrev S3x160x160 : Shape := ⟨3, ![3, 160, 160]⟩
abbrev S15x160x160 : Shape := ⟨3, ![15, 160, 160]⟩
abbrev S1x160x160 : Shape := ⟨3, ![1, 160, 160]⟩

abbrev nBuf : Space → Nat
  | .hbm => 23
  | .vmem => 8
  | .smem => 0
  | _ => 0

abbrev bufTy : (tb : Table) → Fin (tcTables nBuf tb) → BufTy
  | .hbm, ⟨0, _⟩ => ⟨S1x3x128x128, .f32⟩
  | .hbm, ⟨1, _⟩ => ⟨S225x160x160, .f32⟩
  | .hbm, ⟨2, _⟩ => ⟨S160x160, .f32⟩
  | .hbm, ⟨3, _⟩ => ⟨S160x160, .f32⟩
  | .hbm, ⟨4, _⟩ => ⟨S160x160, .f32⟩
  | .hbm, ⟨5, _⟩ => ⟨S3x128x128, .f32⟩
  | .hbm, ⟨6, _⟩ => ⟨S_, .i32⟩
  | .hbm, ⟨7, _⟩ => ⟨S_, .f32⟩
  | .hbm, ⟨8, _⟩ => ⟨S3x160x160, .f32⟩
  | .hbm, ⟨9, _⟩ => ⟨S160x160, .i32⟩
  | .hbm, ⟨10, _⟩ => ⟨S160x160, .i32⟩
  | .hbm, ⟨11, _⟩ => ⟨S160x160, .i32⟩
  | .hbm, ⟨12, _⟩ => ⟨S_, .i32⟩
  | .hbm, ⟨13, _⟩ => ⟨S160x160, .i32⟩
  | .hbm, ⟨14, _⟩ => ⟨S160x160, .i1⟩
  | .hbm, ⟨15, _⟩ => ⟨S160x160, .i32⟩
  | .hbm, ⟨16, _⟩ => ⟨S_, .i32⟩
  | .hbm, ⟨17, _⟩ => ⟨S160x160, .i32⟩
  | .hbm, ⟨18, _⟩ => ⟨S160x160, .i1⟩
  | .hbm, ⟨19, _⟩ => ⟨S160x160, .i1⟩
  | .hbm, ⟨20, _⟩ => ⟨S160x160, .f32⟩
  | .hbm, ⟨21, _⟩ => ⟨S160x160, .bf16⟩
  | .hbm, ⟨22, _⟩ => ⟨S3x160x160, .f32⟩
  | .local _ .vmem, ⟨0, _⟩ => ⟨S15x160x160, .f32⟩
  | .local _ .vmem, ⟨1, _⟩ => ⟨S15x160x160, .f32⟩
  | .local _ .vmem, ⟨2, _⟩ => ⟨S3x160x160, .f32⟩
  | .local _ .vmem, ⟨3, _⟩ => ⟨S160x160, .bf16⟩
  | .local _ .vmem, ⟨4, _⟩ => ⟨S160x160, .f32⟩
  | .local _ .vmem, ⟨5, _⟩ => ⟨S160x160, .f32⟩
  | .local _ .vmem, ⟨6, _⟩ => ⟨S160x160, .f32⟩
  | .local _ .vmem, ⟨7, _⟩ => ⟨S3x160x160, .f32⟩
  | _, _ => ⟨S1x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![15], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S15x160x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x160x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S160x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S160x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S160x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x160x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S1x3x128x128 : Shape := ⟨4, ![1, 3, 128, 128]⟩
abbrev S225x160x160 : Shape := ⟨3, ![225, 160, 160]⟩
abbrev S160x160 : Shape := ⟨2, ![160, 160]⟩
abbrev S3x128x128 : Shape := ⟨3, ![3, 128, 128]⟩
abbrev S_ : Shape := ⟨0, ![]⟩
abbrev S3x130x130 : Shape := ⟨3, ![3, 130, 130]⟩
abbrev S225x130x130 : Shape := ⟨3, ![225, 130, 130]⟩
abbrev S130x130 : Shape := ⟨2, ![130, 130]⟩
abbrev S1x130x130 : Shape := ⟨3, ![1, 130, 130]⟩
abbrev S15x15x130x130 : Shape := ⟨4, ![15, 15, 130, 130]⟩
abbrev S3x153x153 : Shape := ⟨3, ![3, 153, 153]⟩
abbrev S3x139x153 : Shape := ⟨3, ![3, 139, 153]⟩
abbrev S1x3x139x153 : Shape := ⟨4, ![1, 3, 139, 153]⟩
abbrev S15x3x139x153 : Shape := ⟨4, ![15, 3, 139, 153]⟩
abbrev S15x3x139x139 : Shape := ⟨4, ![15, 3, 139, 139]⟩
abbrev S15x1x3x139x139 : Shape := ⟨5, ![15, 1, 3, 139, 139]⟩
abbrev S15x15x3x139x139 : Shape := ⟨5, ![15, 15, 3, 139, 139]⟩
abbrev S15x15x3x130x139 : Shape := ⟨5, ![15, 15, 3, 130, 139]⟩
abbrev S1x15x15x3x130x139 : Shape := ⟨6, ![1, 15, 15, 3, 130, 139]⟩
abbrev S10x15x15x3x130x139 : Shape := ⟨6, ![10, 15, 15, 3, 130, 139]⟩
abbrev S10x15x15x3x130x130 : Shape := ⟨6, ![10, 15, 15, 3, 130, 130]⟩
abbrev S10x1x15x15x3x130x130 : Shape := ⟨7, ![10, 1, 15, 15, 3, 130, 130]⟩
abbrev S10x10x15x15x3x130x130 : Shape := ⟨7, ![10, 10, 15, 15, 3, 130, 130]⟩
abbrev S15x15x1x130x130 : Shape := ⟨5, ![15, 15, 1, 130, 130]⟩
abbrev S1x1x15x15x1x130x130 : Shape := ⟨7, ![1, 1, 15, 15, 1, 130, 130]⟩
abbrev S10x10x3x130x130 : Shape := ⟨5, ![10, 10, 3, 130, 130]⟩
abbrev S10x1x3x130x130 : Shape := ⟨5, ![10, 1, 3, 130, 130]⟩
abbrev S10x3x130x130 : Shape := ⟨4, ![10, 3, 130, 130]⟩
abbrev S10x3x130x139 : Shape := ⟨4, ![10, 3, 130, 139]⟩
abbrev S1x3x130x139 : Shape := ⟨4, ![1, 3, 130, 139]⟩
abbrev S3x130x139 : Shape := ⟨3, ![3, 130, 139]⟩
abbrev S3x139x139 : Shape := ⟨3, ![3, 139, 139]⟩
abbrev S10x10x130x130 : Shape := ⟨4, ![10, 10, 130, 130]⟩
abbrev S10x1x130x130 : Shape := ⟨4, ![10, 1, 130, 130]⟩
abbrev S10x130x130 : Shape := ⟨3, ![10, 130, 130]⟩
abbrev S10x130x139 : Shape := ⟨3, ![10, 130, 139]⟩
abbrev S1x130x139 : Shape := ⟨3, ![1, 130, 139]⟩
abbrev S130x139 : Shape := ⟨2, ![130, 139]⟩
abbrev S139x139 : Shape := ⟨2, ![139, 139]⟩
abbrev S3x160x160 : Shape := ⟨3, ![3, 160, 160]⟩

abbrev nBuf : Space → Nat
  | .hbm => 400
  | .vmem => 0
  | .smem => 0
  | _ => 0

abbrev hbmTy0_0 (i : Nat) : BufTy := match i % 128 with
  | 0 => ⟨S1x3x128x128, .f32⟩
  | 1 => ⟨S225x160x160, .f32⟩
  | 2 => ⟨S160x160, .f32⟩
  | 3 => ⟨S160x160, .f32⟩
  | 4 => ⟨S160x160, .f32⟩
  | 5 => ⟨S3x128x128, .f32⟩
  | 6 => ⟨S_, .i32⟩
  | 7 => ⟨S_, .f32⟩
  | 8 => ⟨S3x130x130, .f32⟩
  | 9 => ⟨S225x130x130, .f32⟩
  | 10 => ⟨S130x130, .f32⟩
  | 11 => ⟨S1x130x130, .f32⟩
  | 12 => ⟨S225x130x130, .f32⟩
  | 13 => ⟨S225x130x130, .i1⟩
  | 14 => ⟨S130x130, .f32⟩
  | 15 => ⟨S1x130x130, .f32⟩
  | 16 => ⟨S225x130x130, .f32⟩
  | 17 => ⟨S225x130x130, .f32⟩
  | 18 => ⟨S225x130x130, .f32⟩
  | 19 => ⟨S_, .f32⟩
  | 20 => ⟨S_, .f32⟩
  | 21 => ⟨S225x130x130, .f32⟩
  | 22 => ⟨S225x130x130, .f32⟩
  | 23 => ⟨S130x130, .f32⟩
  | 24 => ⟨S1x130x130, .f32⟩
  | 25 => ⟨S225x130x130, .f32⟩
  | 26 => ⟨S225x130x130, .f32⟩
  | 27 => ⟨S15x15x130x130, .f32⟩
  | 28 => ⟨S_, .i32⟩
  | 29 => ⟨S_, .f32⟩
  | 30 => ⟨S3x153x153, .f32⟩
  | 31 => ⟨S3x139x153, .f32⟩
  | 32 => ⟨S3x139x153, .f32⟩
  | 33 => ⟨S3x139x153, .f32⟩
  | 34 => ⟨S3x139x153, .f32⟩
  | 35 => ⟨S3x139x153, .f32⟩
  | 36 => ⟨S3x139x153, .f32⟩
  | 37 => ⟨S3x139x153, .f32⟩
  | 38 => ⟨S3x139x153, .f32⟩
  | 39 => ⟨S3x139x153, .f32⟩
  | 40 => ⟨S3x139x153, .f32⟩
  | 41 => ⟨S3x139x153, .f32⟩
  | 42 => ⟨S3x139x153, .f32⟩
  | 43 => ⟨S3x139x153, .f32⟩
  | 44 => ⟨S3x139x153, .f32⟩
  | 45 => ⟨S3x139x153, .f32⟩
  | 46 => ⟨S1x3x139x153, .f32⟩
  | 47 => ⟨S1x3x139x153, .f32⟩
  | 48 => ⟨S1x3x139x153, .f32⟩
  | 49 => ⟨S1x3x139x153, .f32⟩
  | 50 => ⟨S1x3x139x153, .f32⟩
  | 51 => ⟨S1x3x139x153, .f32⟩
  | 52 => ⟨S1x3x139x153, .f32⟩
  | 53 => ⟨S1x3x139x153, .f32⟩
  | 54 => ⟨S1x3x139x153, .f32⟩
  | 55 => ⟨S1x3x139x153, .f32⟩
  | 56 => ⟨S1x3x139x153, .f32⟩
  | 57 => ⟨S1x3x139x153, .f32⟩
  | 58 => ⟨S1x3x139x153, .f32⟩
  | 59 => ⟨S1x3x139x153, .f32⟩
  | 60 => ⟨S1x3x139x153, .f32⟩
  | 61 => ⟨S15x3x139x153, .f32⟩
  | 62 => ⟨S15x3x139x139, .f32⟩
  | 63 => ⟨S15x3x139x139, .f32⟩
  | 64 => ⟨S15x3x139x139, .f32⟩
  | 65 => ⟨S15x3x139x139, .f32⟩
  | 66 => ⟨S15x3x139x139, .f32⟩
  | 67 => ⟨S15x3x139x139, .f32⟩
  | 68 => ⟨S15x3x139x139, .f32⟩
  | 69 => ⟨S15x3x139x139, .f32⟩
  | 70 => ⟨S15x3x139x139, .f32⟩
  | 71 => ⟨S15x3x139x139, .f32⟩
  | 72 => ⟨S15x3x139x139, .f32⟩
  | 73 => ⟨S15x3x139x139, .f32⟩
  | 74 => ⟨S15x3x139x139, .f32⟩
  | 75 => ⟨S15x3x139x139, .f32⟩
  | 76 => ⟨S15x3x139x139, .f32⟩
  | 77 => ⟨S15x1x3x139x139, .f32⟩
  | 78 => ⟨S15x1x3x139x139, .f32⟩
  | 79 => ⟨S15x1x3x139x139, .f32⟩
  | 80 => ⟨S15x1x3x139x139, .f32⟩
  | 81 => ⟨S15x1x3x139x139, .f32⟩
  | 82 => ⟨S15x1x3x139x139, .f32⟩
  | 83 => ⟨S15x1x3x139x139, .f32⟩
  | 84 => ⟨S15x1x3x139x139, .f32⟩
  | 85 => ⟨S15x1x3x139x139, .f32⟩
  | 86 => ⟨S15x1x3x139x139, .f32⟩
  | 87 => ⟨S15x1x3x139x139, .f32⟩
  | 88 => ⟨S15x1x3x139x139, .f32⟩
  | 89 => ⟨S15x1x3x139x139, .f32⟩
  | 90 => ⟨S15x1x3x139x139, .f32⟩
  | 91 => ⟨S15x1x3x139x139, .f32⟩
  | 92 => ⟨S15x15x3x139x139, .f32⟩
  | 93 => ⟨S15x15x3x130x139, .f32⟩
  | 94 => ⟨S15x15x3x130x139, .f32⟩
  | 95 => ⟨S15x15x3x130x139, .f32⟩
  | 96 => ⟨S15x15x3x130x139, .f32⟩
  | 97 => ⟨S15x15x3x130x139, .f32⟩
  | 98 => ⟨S15x15x3x130x139, .f32⟩
  | 99 => ⟨S15x15x3x130x139, .f32⟩
  | 100 => ⟨S15x15x3x130x139, .f32⟩
  | 101 => ⟨S15x15x3x130x139, .f32⟩
  | 102 => ⟨S15x15x3x130x139, .f32⟩
  | 103 => ⟨S1x15x15x3x130x139, .f32⟩
  | 104 => ⟨S1x15x15x3x130x139, .f32⟩
  | 105 => ⟨S1x15x15x3x130x139, .f32⟩
  | 106 => ⟨S1x15x15x3x130x139, .f32⟩
  | 107 => ⟨S1x15x15x3x130x139, .f32⟩
  | 108 => ⟨S1x15x15x3x130x139, .f32⟩
  | 109 => ⟨S1x15x15x3x130x139, .f32⟩
  | 110 => ⟨S1x15x15x3x130x139, .f32⟩
  | 111 => ⟨S1x15x15x3x130x139, .f32⟩
  | 112 => ⟨S1x15x15x3x130x139, .f32⟩
  | 113 => ⟨S10x15x15x3x130x139, .f32⟩
  | 114 => ⟨S10x15x15x3x130x130, .f32⟩
  | 115 => ⟨S10x15x15x3x130x130, .f32⟩
  | 116 => ⟨S10x15x15x3x130x130, .f32⟩
  | 117 => ⟨S10x15x15x3x130x130, .f32⟩
  | 118 => ⟨S10x15x15x3x130x130, .f32⟩
  | 119 => ⟨S10x15x15x3x130x130, .f32⟩
  | 120 => ⟨S10x15x15x3x130x130, .f32⟩
  | 121 => ⟨S10x15x15x3x130x130, .f32⟩
  | 122 => ⟨S10x15x15x3x130x130, .f32⟩
  | 123 => ⟨S10x15x15x3x130x130, .f32⟩
  | 124 => ⟨S10x1x15x15x3x130x130, .f32⟩
  | 125 => ⟨S10x1x15x15x3x130x130, .f32⟩
  | 126 => ⟨S10x1x15x15x3x130x130, .f32⟩
  | 127 => ⟨S10x1x15x15x3x130x130, .f32⟩
  | _ => ⟨S1x3x128x128, .f32⟩

abbrev hbmTy0_1 (i : Nat) : BufTy := match i % 128 with
  | 0 => ⟨S10x1x15x15x3x130x130, .f32⟩
  | 1 => ⟨S10x1x15x15x3x130x130, .f32⟩
  | 2 => ⟨S10x1x15x15x3x130x130, .f32⟩
  | 3 => ⟨S10x1x15x15x3x130x130, .f32⟩
  | 4 => ⟨S10x1x15x15x3x130x130, .f32⟩
  | 5 => ⟨S10x1x15x15x3x130x130, .f32⟩
  | 6 => ⟨S10x10x15x15x3x130x130, .f32⟩
  | 7 => ⟨S15x15x1x130x130, .f32⟩
  | 8 => ⟨S1x1x15x15x1x130x130, .f32⟩
  | 9 => ⟨S10x10x15x15x3x130x130, .f32⟩
  | 10 => ⟨S10x10x15x15x3x130x130, .f32⟩
  | 11 => ⟨S_, .f32⟩
  | 12 => ⟨S10x10x3x130x130, .f32⟩
  | 13 => ⟨S10x1x3x130x130, .f32⟩
  | 14 => ⟨S10x3x130x130, .f32⟩
  | 15 => ⟨S_, .i32⟩
  | 16 => ⟨S_, .f32⟩
  | 17 => ⟨S10x3x130x139, .f32⟩
  | 18 => ⟨S_, .f32⟩
  | 19 => ⟨S10x3x130x139, .f32⟩
  | 20 => ⟨S10x3x130x139, .f32⟩
  | 21 => ⟨S10x1x3x130x130, .f32⟩
  | 22 => ⟨S10x3x130x130, .f32⟩
  | 23 => ⟨S_, .i32⟩
  | 24 => ⟨S_, .f32⟩
  | 25 => ⟨S10x3x130x139, .f32⟩
  | 26 => ⟨S10x3x130x139, .f32⟩
  | 27 => ⟨S10x1x3x130x130, .f32⟩
  | 28 => ⟨S10x3x130x130, .f32⟩
  | 29 => ⟨S_, .i32⟩
  | 30 => ⟨S_, .f32⟩
  | 31 => ⟨S10x3x130x139, .f32⟩
  | 32 => ⟨S10x3x130x139, .f32⟩
  | 33 => ⟨S10x1x3x130x130, .f32⟩
  | 34 => ⟨S10x3x130x130, .f32⟩
  | 35 => ⟨S_, .i32⟩
  | 36 => ⟨S_, .f32⟩
  | 37 => ⟨S10x3x130x139, .f32⟩
  | 38 => ⟨S10x3x130x139, .f32⟩
  | 39 => ⟨S10x1x3x130x130, .f32⟩
  | 40 => ⟨S10x3x130x130, .f32⟩
  | 41 => ⟨S_, .i32⟩
  | 42 => ⟨S_, .f32⟩
  | 43 => ⟨S10x3x130x139, .f32⟩
  | 44 => ⟨S10x3x130x139, .f32⟩
  | 45 => ⟨S10x1x3x130x130, .f32⟩
  | 46 => ⟨S10x3x130x130, .f32⟩
  | 47 => ⟨S_, .i32⟩
  | 48 => ⟨S_, .f32⟩
  | 49 => ⟨S10x3x130x139, .f32⟩
  | 50 => ⟨S10x3x130x139, .f32⟩
  | 51 => ⟨S10x1x3x130x130, .f32⟩
  | 52 => ⟨S10x3x130x130, .f32⟩
  | 53 => ⟨S_, .i32⟩
  | 54 => ⟨S_, .f32⟩
  | 55 => ⟨S10x3x130x139, .f32⟩
  | 56 => ⟨S10x3x130x139, .f32⟩
  | 57 => ⟨S10x1x3x130x130, .f32⟩
  | 58 => ⟨S10x3x130x130, .f32⟩
  | 59 => ⟨S_, .i32⟩
  | 60 => ⟨S_, .f32⟩
  | 61 => ⟨S10x3x130x139, .f32⟩
  | 62 => ⟨S10x3x130x139, .f32⟩
  | 63 => ⟨S10x1x3x130x130, .f32⟩
  | 64 => ⟨S10x3x130x130, .f32⟩
  | 65 => ⟨S_, .i32⟩
  | 66 => ⟨S_, .f32⟩
  | 67 => ⟨S10x3x130x139, .f32⟩
  | 68 => ⟨S10x3x130x139, .f32⟩
  | 69 => ⟨S10x1x3x130x130, .f32⟩
  | 70 => ⟨S10x3x130x130, .f32⟩
  | 71 => ⟨S_, .i32⟩
  | 72 => ⟨S_, .f32⟩
  | 73 => ⟨S10x3x130x139, .f32⟩
  | 74 => ⟨S10x3x130x139, .f32⟩
  | 75 => ⟨S1x3x130x139, .f32⟩
  | 76 => ⟨S3x130x139, .f32⟩
  | 77 => ⟨S_, .i32⟩
  | 78 => ⟨S_, .f32⟩
  | 79 => ⟨S3x139x139, .f32⟩
  | 80 => ⟨S_, .f32⟩
  | 81 => ⟨S3x139x139, .f32⟩
  | 82 => ⟨S3x139x139, .f32⟩
  | 83 => ⟨S1x3x130x139, .f32⟩
  | 84 => ⟨S3x130x139, .f32⟩
  | 85 => ⟨S_, .i32⟩
  | 86 => ⟨S_, .f32⟩
  | 87 => ⟨S3x139x139, .f32⟩
  | 88 => ⟨S3x139x139, .f32⟩
  | 89 => ⟨S1x3x130x139, .f32⟩
  | 90 => ⟨S3x130x139, .f32⟩
  | 91 => ⟨S_, .i32⟩
  | 92 => ⟨S_, .f32⟩
  | 93 => ⟨S3x139x139, .f32⟩
  | 94 => ⟨S3x139x139, .f32⟩
  | 95 => ⟨S1x3x130x139, .f32⟩
  | 96 => ⟨S3x130x139, .f32⟩
  | 97 => ⟨S_, .i32⟩
  | 98 => ⟨S_, .f32⟩
  | 99 => ⟨S3x139x139, .f32⟩
  | 100 => ⟨S3x139x139, .f32⟩
  | 101 => ⟨S1x3x130x139, .f32⟩
  | 102 => ⟨S3x130x139, .f32⟩
  | 103 => ⟨S_, .i32⟩
  | 104 => ⟨S_, .f32⟩
  | 105 => ⟨S3x139x139, .f32⟩
  | 106 => ⟨S3x139x139, .f32⟩
  | 107 => ⟨S1x3x130x139, .f32⟩
  | 108 => ⟨S3x130x139, .f32⟩
  | 109 => ⟨S_, .i32⟩
  | 110 => ⟨S_, .f32⟩
  | 111 => ⟨S3x139x139, .f32⟩
  | 112 => ⟨S3x139x139, .f32⟩
  | 113 => ⟨S1x3x130x139, .f32⟩
  | 114 => ⟨S3x130x139, .f32⟩
  | 115 => ⟨S_, .i32⟩
  | 116 => ⟨S_, .f32⟩
  | 117 => ⟨S3x139x139, .f32⟩
  | 118 => ⟨S3x139x139, .f32⟩
  | 119 => ⟨S1x3x130x139, .f32⟩
  | 120 => ⟨S3x130x139, .f32⟩
  | 121 => ⟨S_, .i32⟩
  | 122 => ⟨S_, .f32⟩
  | 123 => ⟨S3x139x139, .f32⟩
  | 124 => ⟨S3x139x139, .f32⟩
  | 125 => ⟨S1x3x130x139, .f32⟩
  | 126 => ⟨S3x130x139, .f32⟩
  | 127 => ⟨S_, .i32⟩
  | _ => ⟨S1x3x128x128, .f32⟩

abbrev hbmTy0_2 (i : Nat) : BufTy := match i % 128 with
  | 0 => ⟨S_, .f32⟩
  | 1 => ⟨S3x139x139, .f32⟩
  | 2 => ⟨S3x139x139, .f32⟩
  | 3 => ⟨S1x3x130x139, .f32⟩
  | 4 => ⟨S3x130x139, .f32⟩
  | 5 => ⟨S_, .i32⟩
  | 6 => ⟨S_, .f32⟩
  | 7 => ⟨S3x139x139, .f32⟩
  | 8 => ⟨S3x139x139, .f32⟩
  | 9 => ⟨S3x130x130, .f32⟩
  | 10 => ⟨S_, .f32⟩
  | 11 => ⟨S10x10x130x130, .f32⟩
  | 12 => ⟨S10x1x130x130, .f32⟩
  | 13 => ⟨S10x130x130, .f32⟩
  | 14 => ⟨S_, .i32⟩
  | 15 => ⟨S_, .f32⟩
  | 16 => ⟨S10x130x139, .f32⟩
  | 17 => ⟨S_, .f32⟩
  | 18 => ⟨S10x130x139, .f32⟩
  | 19 => ⟨S10x130x139, .f32⟩
  | 20 => ⟨S10x1x130x130, .f32⟩
  | 21 => ⟨S10x130x130, .f32⟩
  | 22 => ⟨S_, .i32⟩
  | 23 => ⟨S_, .f32⟩
  | 24 => ⟨S10x130x139, .f32⟩
  | 25 => ⟨S10x130x139, .f32⟩
  | 26 => ⟨S10x1x130x130, .f32⟩
  | 27 => ⟨S10x130x130, .f32⟩
  | 28 => ⟨S_, .i32⟩
  | 29 => ⟨S_, .f32⟩
  | 30 => ⟨S10x130x139, .f32⟩
  | 31 => ⟨S10x130x139, .f32⟩
  | 32 => ⟨S10x1x130x130, .f32⟩
  | 33 => ⟨S10x130x130, .f32⟩
  | 34 => ⟨S_, .i32⟩
  | 35 => ⟨S_, .f32⟩
  | 36 => ⟨S10x130x139, .f32⟩
  | 37 => ⟨S10x130x139, .f32⟩
  | 38 => ⟨S10x1x130x130, .f32⟩
  | 39 => ⟨S10x130x130, .f32⟩
  | 40 => ⟨S_, .i32⟩
  | 41 => ⟨S_, .f32⟩
  | 42 => ⟨S10x130x139, .f32⟩
  | 43 => ⟨S10x130x139, .f32⟩
  | 44 => ⟨S10x1x130x130, .f32⟩
  | 45 => ⟨S10x130x130, .f32⟩
  | 46 => ⟨S_, .i32⟩
  | 47 => ⟨S_, .f32⟩
  | 48 => ⟨S10x130x139, .f32⟩
  | 49 => ⟨S10x130x139, .f32⟩
  | 50 => ⟨S10x1x130x130, .f32⟩
  | 51 => ⟨S10x130x130, .f32⟩
  | 52 => ⟨S_, .i32⟩
  | 53 => ⟨S_, .f32⟩
  | 54 => ⟨S10x130x139, .f32⟩
  | 55 => ⟨S10x130x139, .f32⟩
  | 56 => ⟨S10x1x130x130, .f32⟩
  | 57 => ⟨S10x130x130, .f32⟩
  | 58 => ⟨S_, .i32⟩
  | 59 => ⟨S_, .f32⟩
  | 60 => ⟨S10x130x139, .f32⟩
  | 61 => ⟨S10x130x139, .f32⟩
  | 62 => ⟨S10x1x130x130, .f32⟩
  | 63 => ⟨S10x130x130, .f32⟩
  | 64 => ⟨S_, .i32⟩
  | 65 => ⟨S_, .f32⟩
  | 66 => ⟨S10x130x139, .f32⟩
  | 67 => ⟨S10x130x139, .f32⟩
  | 68 => ⟨S10x1x130x130, .f32⟩
  | 69 => ⟨S10x130x130, .f32⟩
  | 70 => ⟨S_, .i32⟩
  | 71 => ⟨S_, .f32⟩
  | 72 => ⟨S10x130x139, .f32⟩
  | 73 => ⟨S10x130x139, .f32⟩
  | 74 => ⟨S1x130x139, .f32⟩
  | 75 => ⟨S130x139, .f32⟩
  | 76 => ⟨S_, .i32⟩
  | 77 => ⟨S_, .f32⟩
  | 78 => ⟨S139x139, .f32⟩
  | 79 => ⟨S_, .f32⟩
  | 80 => ⟨S139x139, .f32⟩
  | 81 => ⟨S139x139, .f32⟩
  | 82 => ⟨S1x130x139, .f32⟩
  | 83 => ⟨S130x139, .f32⟩
  | 84 => ⟨S_, .i32⟩
  | 85 => ⟨S_, .f32⟩
  | 86 => ⟨S139x139, .f32⟩
  | 87 => ⟨S139x139, .f32⟩
  | 88 => ⟨S1x130x139, .f32⟩
  | 89 => ⟨S130x139, .f32⟩
  | 90 => ⟨S_, .i32⟩
  | 91 => ⟨S_, .f32⟩
  | 92 => ⟨S139x139, .f32⟩
  | 93 => ⟨S139x139, .f32⟩
  | 94 => ⟨S1x130x139, .f32⟩
  | 95 => ⟨S130x139, .f32⟩
  | 96 => ⟨S_, .i32⟩
  | 97 => ⟨S_, .f32⟩
  | 98 => ⟨S139x139, .f32⟩
  | 99 => ⟨S139x139, .f32⟩
  | 100 => ⟨S1x130x139, .f32⟩
  | 101 => ⟨S130x139, .f32⟩
  | 102 => ⟨S_, .i32⟩
  | 103 => ⟨S_, .f32⟩
  | 104 => ⟨S139x139, .f32⟩
  | 105 => ⟨S139x139, .f32⟩
  | 106 => ⟨S1x130x139, .f32⟩
  | 107 => ⟨S130x139, .f32⟩
  | 108 => ⟨S_, .i32⟩
  | 109 => ⟨S_, .f32⟩
  | 110 => ⟨S139x139, .f32⟩
  | 111 => ⟨S139x139, .f32⟩
  | 112 => ⟨S1x130x139, .f32⟩
  | 113 => ⟨S130x139, .f32⟩
  | 114 => ⟨S_, .i32⟩
  | 115 => ⟨S_, .f32⟩
  | 116 => ⟨S139x139, .f32⟩
  | 117 => ⟨S139x139, .f32⟩
  | 118 => ⟨S1x130x139, .f32⟩
  | 119 => ⟨S130x139, .f32⟩
  | 120 => ⟨S_, .i32⟩
  | 121 => ⟨S_, .f32⟩
  | 122 => ⟨S139x139, .f32⟩
  | 123 => ⟨S139x139, .f32⟩
  | 124 => ⟨S1x130x139, .f32⟩
  | 125 => ⟨S130x139, .f32⟩
  | 126 => ⟨S_, .i32⟩
  | 127 => ⟨S_, .f32⟩
  | _ => ⟨S1x3x128x128, .f32⟩

abbrev hbmTy0_3 (i : Nat) : BufTy := match i % 128 with
  | 0 => ⟨S139x139, .f32⟩
  | 1 => ⟨S139x139, .f32⟩
  | 2 => ⟨S1x130x139, .f32⟩
  | 3 => ⟨S130x139, .f32⟩
  | 4 => ⟨S_, .i32⟩
  | 5 => ⟨S_, .f32⟩
  | 6 => ⟨S139x139, .f32⟩
  | 7 => ⟨S139x139, .f32⟩
  | 8 => ⟨S130x130, .f32⟩
  | 9 => ⟨S1x130x130, .f32⟩
  | 10 => ⟨S3x130x130, .f32⟩
  | 11 => ⟨S3x130x130, .f32⟩
  | 12 => ⟨S3x130x130, .f32⟩
  | 13 => ⟨S_, .i32⟩
  | 14 => ⟨S_, .f32⟩
  | 15 => ⟨S3x160x160, .f32⟩
  | _ => ⟨S1x3x128x128, .f32⟩

abbrev hbmTy (i : Nat) : BufTy := match i / 128 with
  | 0 => hbmTy0_0 i
  | 1 => hbmTy0_1 i
  | 2 => hbmTy0_2 i
  | 3 => hbmTy0_3 i
  | _ => ⟨S1x3x128x128, .f32⟩

abbrev bufTy : (tb : Table) → Fin (tcTables nBuf tb) → BufTy
  | .hbm, ⟨i, _⟩ => hbmTy i
  | _, _ => ⟨S1x3x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_call2_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_cst_1 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_c_2 : Ref sig .tc := ⟨.hbm, 143, rfl⟩
abbrev main_call3_v0 : Ref sig .tc := ⟨.hbm, 144, rfl⟩
abbrev main_v130 : Ref sig .tc := ⟨.hbm, 145, rfl⟩
abbrev main_cst_3 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_c_4 : Ref sig .tc := ⟨.hbm, 151, rfl⟩
abbrev main_call4_v0 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_c_5 : Ref sig .tc := ⟨.hbm, 157, rfl⟩
abbrev main_call5_v0 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_c_6 : Ref sig .tc := ⟨.hbm, 163, rfl⟩
abbrev main_call6_v0 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_c_7 : Ref sig .tc := ⟨.hbm, 169, rfl⟩
abbrev main_call7_v0 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_c_8 : Ref sig .tc := ⟨.hbm, 175, rfl⟩
abbrev main_call8_v0 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_c_9 : Ref sig .tc := ⟨.hbm, 181, rfl⟩
abbrev main_call9_v0 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_c_10 : Ref sig .tc := ⟨.hbm, 187, rfl⟩
abbrev main_call10_v0 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_c_11 : Ref sig .tc := ⟨.hbm, 193, rfl⟩
abbrev main_call11_v0 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_c_12 : Ref sig .tc := ⟨.hbm, 199, rfl⟩
abbrev main_call12_v0 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_c_13 : Ref sig .tc := ⟨.hbm, 205, rfl⟩
abbrev main_call13_v0 : Ref sig .tc := ⟨.hbm, 206, rfl⟩
abbrev main_v171 : Ref sig .tc := ⟨.hbm, 207, rfl⟩
abbrev main_cst_14 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_c_15 : Ref sig .tc := ⟨.hbm, 213, rfl⟩
abbrev main_call14_v0 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_c_16 : Ref sig .tc := ⟨.hbm, 219, rfl⟩
abbrev main_call15_v0 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_c_17 : Ref sig .tc := ⟨.hbm, 225, rfl⟩
abbrev main_call16_v0 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_c_18 : Ref sig .tc := ⟨.hbm, 231, rfl⟩
abbrev main_call17_v0 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_c_19 : Ref sig .tc := ⟨.hbm, 237, rfl⟩
abbrev main_call18_v0 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_c_20 : Ref sig .tc := ⟨.hbm, 243, rfl⟩
abbrev main_call19_v0 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_c_21 : Ref sig .tc := ⟨.hbm, 249, rfl⟩
abbrev main_call20_v0 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_c_22 : Ref sig .tc := ⟨.hbm, 255, rfl⟩
abbrev main_call21_v0 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_c_23 : Ref sig .tc := ⟨.hbm, 261, rfl⟩
abbrev main_call22_v0 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_cst_24 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_c_25 : Ref sig .tc := ⟨.hbm, 270, rfl⟩
abbrev main_call23_v0 : Ref sig .tc := ⟨.hbm, 271, rfl⟩
abbrev main_v214 : Ref sig .tc := ⟨.hbm, 272, rfl⟩
abbrev main_cst_26 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_c_27 : Ref sig .tc := ⟨.hbm, 278, rfl⟩
abbrev main_call24_v0 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_c_28 : Ref sig .tc := ⟨.hbm, 284, rfl⟩
abbrev main_call25_v0 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_c_29 : Ref sig .tc := ⟨.hbm, 290, rfl⟩
abbrev main_call26_v0 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_c_30 : Ref sig .tc := ⟨.hbm, 296, rfl⟩
abbrev main_call27_v0 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_c_31 : Ref sig .tc := ⟨.hbm, 302, rfl⟩
abbrev main_call28_v0 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_c_32 : Ref sig .tc := ⟨.hbm, 308, rfl⟩
abbrev main_call29_v0 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_c_33 : Ref sig .tc := ⟨.hbm, 314, rfl⟩
abbrev main_call30_v0 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_c_34 : Ref sig .tc := ⟨.hbm, 320, rfl⟩
abbrev main_call31_v0 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_c_35 : Ref sig .tc := ⟨.hbm, 326, rfl⟩
abbrev main_call32_v0 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_c_36 : Ref sig .tc := ⟨.hbm, 332, rfl⟩
abbrev main_call33_v0 : Ref sig .tc := ⟨.hbm, 333, rfl⟩
abbrev main_v255 : Ref sig .tc := ⟨.hbm, 334, rfl⟩
abbrev main_cst_37 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_c_38 : Ref sig .tc := ⟨.hbm, 340, rfl⟩
abbrev main_call34_v0 : Ref sig .tc := ⟨.hbm, 341, rfl⟩
abbrev main_v260 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_c_39 : Ref sig .tc := ⟨.hbm, 346, rfl⟩
abbrev main_call35_v0 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_c_40 : Ref sig .tc := ⟨.hbm, 352, rfl⟩
abbrev main_call36_v0 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_c_41 : Ref sig .tc := ⟨.hbm, 358, rfl⟩
abbrev main_call37_v0 : Ref sig .tc := ⟨.hbm, 359, rfl⟩
abbrev main_v272 : Ref sig .tc := ⟨.hbm, 360, rfl⟩
abbrev main_v273 : Ref sig .tc := ⟨.hbm, 361, rfl⟩
abbrev main_v274 : Ref sig .tc := ⟨.hbm, 362, rfl⟩
abbrev main_v275 : Ref sig .tc := ⟨.hbm, 363, rfl⟩
abbrev main_c_42 : Ref sig .tc := ⟨.hbm, 364, rfl⟩
abbrev main_call38_v0 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_c_43 : Ref sig .tc := ⟨.hbm, 370, rfl⟩
abbrev main_call39_v0 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_c_44 : Ref sig .tc := ⟨.hbm, 376, rfl⟩
abbrev main_call40_v0 : Ref sig .tc := ⟨.hbm, 377, rfl⟩
abbrev main_v284 : Ref sig .tc := ⟨.hbm, 378, rfl⟩
abbrev main_v285 : Ref sig .tc := ⟨.hbm, 379, rfl⟩
abbrev main_v286 : Ref sig .tc := ⟨.hbm, 380, rfl⟩
abbrev main_v287 : Ref sig .tc := ⟨.hbm, 381, rfl⟩
abbrev main_c_45 : Ref sig .tc := ⟨.hbm, 382, rfl⟩
abbrev main_call41_v0 : Ref sig .tc := ⟨.hbm, 383, rfl⟩
abbrev main_v288 : Ref sig .tc := ⟨.hbm, 384, rfl⟩
abbrev main_v289 : Ref sig .tc := ⟨.hbm, 385, rfl⟩
abbrev main_v290 : Ref sig .tc := ⟨.hbm, 386, rfl⟩
abbrev main_v291 : Ref sig .tc := ⟨.hbm, 387, rfl⟩
abbrev main_c_46 : Ref sig .tc := ⟨.hbm, 388, rfl⟩
abbrev main_call42_v0 : Ref sig .tc := ⟨.hbm, 389, rfl⟩
abbrev main_v292 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_v296 : Ref sig .tc := ⟨.hbm, 394, rfl⟩
abbrev main_v297 : Ref sig .tc := ⟨.hbm, 395, rfl⟩
abbrev main_v298 : Ref sig .tc := ⟨.hbm, 396, rfl⟩
abbrev main_c_47 : Ref sig .tc := ⟨.hbm, 397, rfl⟩
abbrev main_call43_v0 : Ref sig .tc := ⟨.hbm, 398, rfl⟩
abbrev main_v299 : Ref sig .tc := ⟨.hbm, 399, rfl⟩

abbrev nD : Nat := 1
abbrev τ : Topo := Topo.v7x

variable {F : FTy → Type} [FloatOps F]
-- ==== Proof.Block.lean ====
/- One block of the distance kernel: what it stores for one horizontal offset, as a function of the offset, and the
   lists of stores of the two cases of the kernel's body as fifteen such blocks. -/
module

public import proofs.«01_k».proof.Proof.Gen.KernelIdeal.Value
public import Idealize.ShloMosaic.Lib.WritesUnit

@[expose] public section
set_option maxRecDepth 16384
noncomputable section
namespace Cert.Dist
open Cert.KernelIdeal Cert.KernelIdeal.Gen Idealize.ShloMosaic Idealize.ShloMosaic.TcCoe Idealize.SL.Sem

variable {F : FTy → Type} [FloatOps F]

/-- The channel sum of a product of two embeddings. -/
def dotE (y : FVec F S8x160x160 .f32) (z : FVec F S8x160x160 .f32) : FVec F S160x160 .f32 :=
  multiReduction .add [0] S160x160 (mulf y z) 0x00000000#32 reduces_S8x160x160_S160x160 (.inl rfl) rfl

/-- The sum of ten consecutive rows, by doubling, centred. -/
def rows10 (p : FVec F S160x160 .f32) : FVec F S160x160 .f32 :=
  let s2 := addf p (dynamicRotate 0 159#32 none p rotates_S160x160_d0)
  let s4 := addf s2 (dynamicRotate 0 158#32 none s2 rotates_S160x160_d0)
  let s8 := addf s4 (dynamicRotate 0 156#32 none s4 rotates_S160x160_d0)
  let t := addf s8 (dynamicRotate 0 152#32 none s2 rotates_S160x160_d0)
  dynamicRotate 0 5#32 none t rotates_S160x160_d0

/-- The sum of ten consecutive columns, by doubling, centred. -/
def cols10 (p : FVec F S160x160 .f32) : FVec F S160x160 .f32 :=
  let s2 := addf p (dynamicRotate 1 159#32 none p rotates_S160x160_d1)
  let s4 := addf s2 (dynamicRotate 1 158#32 none s2 rotates_S160x160_d1)
  let s8 := addf s4 (dynamicRotate 1 156#32 none s4 rotates_S160x160_d1)
  let t := addf s8 (dynamicRotate 1 152#32 none s2 rotates_S160x160_d1)
  dynamicRotate 1 5#32 none t rotates_S160x160_d1

/-- A product with a band matrix, the left factor split in a high and a low half. -/
def band (q : FVec F S160x160 .f32) (b : FVec F S160x160 .bf16) : FVec F S160x160 .f32 :=
  let hi := truncf .bf16 q bitsLt_bf16_f32
  let lo := truncf .bf16 (subf q (extf .f32 hi bitsLt_bf16_f32)) bitsLt_bf16_f32
  addf (matmul dot_S160x160_S160x160_S160x160_1_0_0_1_n_n none hi b (constant S160x160 .f32 0x00000000#32))
    (matmul dot_S160x160_S160x160_S160x160_1_0_0_1_n_n none lo b (constant S160x160 .f32 0x00000000#32))

/-- The vertical offset of a grid point, as a word. -/
def dyW (i : grid0.Coords) : BitVec 32 := Scalar.subi (BitVec.ofNat 32 (i 0).val) 7#32

/-- The rotation that a vertical offset asks for. -/
def syW (i : grid0.Coords) : BitVec 32 := Scalar.remsi (Scalar.addi (Scalar.subi 0#32 (dyW i)) 160#32) 160#32

/-- The columns whose neighbour at horizontal offset `w` lies in the image. -/
def colMask (w : BitVec 32) : FVec F S1x160 .f32 :=
  let v : IVec S8x160 32 := addi (iota .tc S8x160 32 [1] iota_S8x160_d1_w32) (broadcast S8x160 w)
  extractStridedSlice S1x160 ![0, 0]
    (sitofp .f32 (extui 32 (andi (cmpi .sge v (broadcast S8x160 16#32)) (cmpi .slt v (broadcast S8x160 146#32)))
      natLt_1_32)) slices_S8x160_o0_0_S1x160

/-- The column mask of block `d`: at horizontal offset zero it also asks for a vertical offset other than zero. -/
def maskD (i : grid0.Coords) (d : Fin 15) : FVec F S1x160 .f32 :=
  if d.val = 7 then
    mulf (colMask (BitVec.ofNat 32 d.val - 7#32))
      (broadcast S1x160 (Scalar.sitofp .f32 (Scalar.extui (Scalar.cmpi .ne (dyW i) 0#32))))
  else colMask (BitVec.ofNat 32 d.val - 7#32)

/-- The distance at each pixel, before masking. -/
def rawD (d : Fin 15) (nxy ne cr : FVec F S160x160 .f32) : FVec F S160x160 .f32 :=
  subf (addf ne (dynamicRotate 1 (BitVec.ofNat 32 ((167 - d.val) % 160)) none nxy rotates_S160x160_d1))
    (mulf (broadcast S160x160 (Scalar.ofBits .f32 0x40000000#32)) cr)

/-- Blend a distance with the large constant, by a mask. -/
def blend (x m : FVec F S160x160 .f32) : FVec F S160x160 .f32 :=
  addf (mulf x m) (mulf (subf (broadcast S160x160 (Scalar.ofBits .f32 0x3F800000#32)) m)
    (broadcast S160x160 (Scalar.ofBits .f32 0x60AD78EC#32)))

/-- What the body stores for block `d`. -/
def blockD (i : grid0.Coords) (x0 : FVec F S8x160x160 .f32) (ne nx : FVec F S160x160 .f32)
    (y : Fin 15 → FVec F S1x8x160x160 .f32) (b : Fin 15 → FVec F S1x160x160 .bf16) (d : Fin 15) :
    FVec F S1x160x160 .f32 :=
  shapeCast S1x160x160
    (blend (rawD d (k0_pay25 i nx) ne
        (band (rows10 (dotE (shapeCast S8x160x160 (y d) shapeCasts_S1x8x160x160_S8x160x160) (k0_pay24 i x0)))
          (shapeCast S160x160 (b d) shapeCasts_S1x160x160_S160x160)))
      (mulf (broadcastTo S160x160 (k0_pay26 i) broadcasts_S160x1_S160x160)
        (broadcastTo S160x160 (maskD i d) broadcasts_S1x160_S160x160)))
    shapeCasts_S160x160_S1x160x160

theorem inb4 (d : Fin 15) (a : Fin S15x8x160x160.rank) : (![d.val, 0, 0, 0] : Fin 4 → ℕ) a + S1x8x160x160.size a ≤ S15x8x160x160.size a := by
  have := d.isLt
  match a with
  | ⟨0, _⟩ => show d.val + 1 ≤ 15; omega
  | ⟨1, _⟩ => exact le_refl _
  | ⟨2, _⟩ => exact le_refl _
  | ⟨3, _⟩ => exact le_refl _

theorem inb3 (d : Fin 15) (a : Fin S15x160x160.rank) : (![d.val, 0, 0] : Fin 3 → ℕ) a + S1x160x160.size a ≤ S15x160x160.size a := by
  have := d.isLt
  match a with
  | ⟨0, _⟩ => show d.val + 1 ≤ 15; omega
  | ⟨1, _⟩ => exact le_refl _
  | ⟨2, _⟩ => exact le_refl _

/-- Slab `d` of the stack of shifted embeddings. -/
def slabY (Y : FVec F S15x8x160x160 .f32) (d : Fin 15) : FVec F S1x8x160x160 .f32 :=
  fun j => Y ((Rect.unit (s := S15x8x160x160) ![d.val, 0, 0, 0] S1x8x160x160.size (inb4 d)).toLoadRect.idx j)

/-- Slab `d` of the stack of band matrices. -/
def slabB (B : FVec F S15x160x160 .bf16) (d : Fin 15) : FVec F S1x160x160 .bf16 :=
  fun j => B ((Rect.unit (s := S15x160x160) ![d.val, 0, 0] S1x160x160.size (inb3 d)).toLoadRect.idx j)

/-- The fifteen stores of blocks into the output. -/
def outPieces (P : Fin 15 → FVec F S1x160x160 .f32) : List (View.Piece (Elt F) S15x160x160 .f32) :=
  View.tilePieces (Val := Elt F) S1x160x160.size (fun d : Fin 15 => ![d.val, 0, 0]) inb3 P 15 (le_refl 15)

set_option maxHeartbeats 4000000 in
theorem piecesB (c : Dev nD) (i : grid0.Coords) (arg1 : Memref sig .tc .vmem S8x160x160 .f32) (harg1 : arg1.IsWhole) (arg2 : Memref sig .tc .vmem S8x160x160 .f32) (harg2 : arg2.IsWhole) (arg3 : Memref sig .tc .vmem S15x160x160 .bf16) (harg3 : arg3.IsWhole) (arg4 : Memref sig .tc .vmem S15x160x160 .f32) (harg4 : arg4.IsWhole) (arg5 : Memref sig .tc .vmem S15x8x160x160 .f32) (harg5 : arg5.IsWhole) (arg6 : Memref sig .tc .vmem S160x160 .f32) (harg6 : arg6.IsWhole) (arg7 : Memref sig .tc .vmem S160x160 .f32) (harg7 : arg7.IsWhole) (hc0 : ¬cond0_0 i)
    (x0 : Vec F S8x160x160 .f32) (x1 : Vec F S8x160x160 .f32) (x2 : Vec F S15x160x160 .bf16) (xs0 : Vec F S15x8x160x160 .f32) (xs1 : Vec F S160x160 .f32) (xs2 : Vec F S160x160 .f32) :
    (kernelRun0_B c i arg1 harg1 arg2 harg2 arg3 harg3 arg4 harg4 arg5 harg5 arg6 harg6 arg7 harg7 hc0 x0 x1 x2 xs0 xs1 xs2).1
      = outPieces (blockD i (View.readAt (Elt F) arg1.view (Rect.unit (s := S8x160x160) ![0, 0, 0] S8x160x160.size inb_S8x160x160_S8x160x160_0_0_0).toLoadRect (harg1.unread x0))
          (View.readAt (Elt F) arg6.view (Rect.unit (s := S160x160) ![0, 0] S160x160.size inb_S160x160_S160x160_0_0).toLoadRect (harg6.unread xs1))
          (View.readAt (Elt F) arg7.view (Rect.unit (s := S160x160) ![0, 0] S160x160.size inb_S160x160_S160x160_0_0).toLoadRect (harg7.unread xs2))
          (fun d => View.readAt (Elt F) arg5.view (Rect.unit (s := S15x8x160x160) ![d.val, 0, 0, 0] S1x8x160x160.size (inb4 d)).toLoadRect (harg5.unread xs0))
          (fun d => View.readAt (Elt F) arg3.view (Rect.unit (s := S15x160x160) ![d.val, 0, 0] S1x160x160.size (inb3 d)).toLoadRect (harg3.unread x2))) := by
  rfl

/-- The stores of the shifted embeddings: slab `d` is the embedding moved `d - 7` columns. -/
def yepPieces (y : FVec F S8x160x160 .f32) : List (View.Piece (Elt F) S15x8x160x160 .f32) :=
  View.tilePieces (Val := Elt F) S1x8x160x160.size (fun d : Fin 15 => ![d.val, 0, 0, 0]) inb4
    (fun d => shapeCast S1x8x160x160 (dynamicRotate 2 (BitVec.ofNat 32 ((d.val + 153) % 160)) none
      (shapeCast S8x160x160 y shapeCasts_S8x160x160_S8x160x160) rotates_S8x160x160_d2) shapeCasts_S8x160x160_S1x8x160x160)
    15 (le_refl 15)

/-- The patch sums of squares of an embedding. -/
def sqBox (y : FVec F S8x160x160 .f32) : FVec F S160x160 .f32 :=
  shapeCast S160x160 (cols10 (rows10 (dotE (shapeCast S8x160x160 y shapeCasts_S8x160x160_S8x160x160)
    (shapeCast S8x160x160 y shapeCasts_S8x160x160_S8x160x160)))) shapeCasts_S160x160_S160x160

/-- One store of a whole array of patch sums. -/
def sqPieces (y : FVec F S8x160x160 .f32) : List (View.Piece (Elt F) S160x160 .f32) :=
  [⟨Rect.unit (s := S160x160) ![0, 0] S160x160.size inb_S160x160_S160x160_0_0, sqBox y⟩]

section CaseA

variable (c : Dev nD) (i : grid0.Coords) (arg1 : Memref sig .tc .vmem S8x160x160 .f32) (harg1 : arg1.IsWhole) (arg2 : Memref sig .tc .vmem S8x160x160 .f32) (harg2 : arg2.IsWhole) (arg3 : Memref sig .tc .vmem S15x160x160 .bf16) (harg3 : arg3.IsWhole) (arg4 : Memref sig .tc .vmem S15x160x160 .f32) (harg4 : arg4.IsWhole) (arg5 : Memref sig .tc .vmem S15x8x160x160 .f32) (harg5 : arg5.IsWhole) (arg6 : Memref sig .tc .vmem S160x160 .f32) (harg6 : arg6.IsWhole) (arg7 : Memref sig .tc .vmem S160x160 .f32) (harg7 : arg7.IsWhole) (hc0 : cond0_0 i)
    (x0 : Vec F S8x160x160 .f32) (x1 : Vec F S8x160x160 .f32) (x2 : Vec F S15x160x160 .bf16)

/-- An embedding read whole. -/
abbrev rdE (a : Memref sig .tc .vmem S8x160x160 .f32) (ha : a.IsWhole) (x : Vec F S8x160x160 .f32) : Vec F S8x160x160 .f32 :=
  View.readAt (Elt F) a.view (Rect.unit (s := S8x160x160) ![0, 0, 0] S8x160x160.size inb_S8x160x160_S8x160x160_0_0_0).toLoadRect (ha.unread x)

set_option maxHeartbeats 4000000 in
theorem piecesA_0 : (kernelRun0_A c i arg1 harg1 arg2 harg2 arg3 harg3 arg4 harg4 arg5 harg5 arg6 harg6 arg7 harg7 hc0 x0 x1 x2).2.1
      = yepPieces (rdE arg2 harg2 x1) := by
  rfl

set_option maxHeartbeats 4000000 in
theorem piecesA_1 : (kernelRun0_A c i arg1 harg1 arg2 harg2 arg3 harg3 arg4 harg4 arg5 harg5 arg6 harg6 arg7 harg7 hc0 x0 x1 x2).2.2.1
      = sqPieces (rdE arg2 harg2 x1) := by
  rfl

set_option maxHeartbeats 4000000 in
theorem piecesA_2 : (kernelRun0_A c i arg1 harg1 arg2 harg2 arg3 harg3 arg4 harg4 arg5 harg5 arg6 harg6 arg7 harg7 hc0 x0 x1 x2).2.2.2.1
      = sqPieces (rdE arg1 harg1 x0) := by
  rfl

set_option maxHeartbeats 4000000 in
theorem piecesA_3 : (kernelRun0_A c i arg1 harg1 arg2 harg2 arg3 harg3 arg4 harg4 arg5 harg5 arg6 harg6 arg7 harg7 hc0 x0 x1 x2).1
      = outPieces (blockD i (rdE arg1 harg1 x0)
          (arg6.view.readCov (sqPieces (rdE arg2 harg2 x1)) (Rect.unit (s := S160x160) ![0, 0] S160x160.size inb_S160x160_S160x160_0_0).toLoadRect)
          (arg7.view.readCov (sqPieces (rdE arg1 harg1 x0)) (Rect.unit (s := S160x160) ![0, 0] S160x160.size inb_S160x160_S160x160_0_0).toLoadRect)
          (fun d => arg5.view.readCov (yepPieces (rdE arg2 harg2 x1)) (Rect.unit (s := S15x8x160x160) ![d.val, 0, 0, 0] S1x8x160x160.size (inb4 d)).toLoadRect)
          (fun d => View.readAt (Elt F) arg3.view (Rect.unit (s := S15x160x160) ![d.val, 0, 0] S1x160x160.size (inb3 d)).toLoadRect (harg3.unread x2))) := by
  rfl

end CaseA

end Cert.Dist
end
-- ==== Proof.Value.lean ====
/- The values of the distance kernel's vector operations over the extended reals, read at a pixel. Coordinates are
   natural numbers, taken modulo the canvas. -/
module

public import proofs.«01_k».proof.Proof.Block
public import Idealize.ShloMosaic.Lib.Pointwise

@[expose] public section
set_option maxRecDepth 16384
noncomputable section
namespace Cert.Dist
open Cert.KernelIdeal Cert.KernelIdeal.Gen Idealize.ShloMosaic Idealize.ShloMosaic.TcCoe Idealize.SL.Sem

/-- A number of the canvas, from any natural number. -/
def wrap (i : ℕ) : Fin 160 := ⟨i % 160, Nat.mod_lt _ (by decide)⟩

/-- Read a canvas at a pixel, around its edges. -/
def at2 (v : FVec Ideal S160x160 .f32) (i j : ℕ) : EReal := v (ix2 (wrap i) (wrap j))

/-- Read a stack of canvases at a pixel, around its edges. -/
def at3 (v : FVec Ideal S8x160x160 .f32) (e : Fin 8) (i j : ℕ) : EReal := v (ix3 e (wrap i) (wrap j))

theorem wrap_congr {i j : ℕ} (h : i % 160 = j % 160) : wrap i = wrap j := Fin.ext h

theorem wrap_val (i : Fin 160) : wrap i.val = i := Fin.ext (Nat.mod_eq_of_lt i.isLt)

theorem at2_congr (v : FVec Ideal S160x160 .f32) {i j i' j' : ℕ} (hi : i % 160 = i' % 160) (hj : j % 160 = j' % 160) :
    at2 v i j = at2 v i' j' := by
  unfold at2; rw [wrap_congr hi, wrap_congr hj]

theorem at3_congr (v : FVec Ideal S8x160x160 .f32) (e : Fin 8) {i j i' j' : ℕ} (hi : i % 160 = i' % 160)
    (hj : j % 160 = j' % 160) : at3 v e i j = at3 v e i' j' := by
  unfold at3; rw [wrap_congr hi, wrap_congr hj]

/-- Rolling the rows moves the row that is read. -/
theorem at2_roll0 (w : BitVec 32) (p : FVec Ideal S160x160 .f32) (h : S160x160.Rotates 0 none) (i j : ℕ) :
    at2 (dynamicRotate 0 w none p h) i j = at2 p (i + (160 - w.toNat % 160)) j := by
  unfold at2
  pointwise
  congr 1
  refine congrArg₂ ix2 (Fin.ext ?_) rfl
  simp only [wrap]
  have := Nat.mod_lt w.toNat (show 160 > 0 by decide)
  omega

/-- Rolling the columns moves the column that is read. -/
theorem at2_roll1 (w : BitVec 32) (p : FVec Ideal S160x160 .f32) (h : S160x160.Rotates 1 none) (i j : ℕ) :
    at2 (dynamicRotate 1 w none p h) i j = at2 p i (j + (160 - w.toNat % 160)) := by
  unfold at2
  pointwise
  congr 1
  refine congrArg₂ ix2 rfl (Fin.ext ?_)
  simp only [wrap]
  have := Nat.mod_lt w.toNat (show 160 > 0 by decide)
  omega

/-- Rolling the rows of a stack moves the row that is read. -/
theorem at3_roll1 (w : BitVec 32) (p : FVec Ideal S8x160x160 .f32) (h : S8x160x160.Rotates 1 none) (e : Fin 8) (i j : ℕ) :
    at3 (dynamicRotate 1 w none p h) e i j = at3 p e (i + (160 - w.toNat % 160)) j := by
  unfold at3
  pointwise
  congr 1
  refine congrArg (fun x => ix3 e x (wrap j)) (Fin.ext ?_)
  simp only [wrap]
  have := Nat.mod_lt w.toNat (show 160 > 0 by decide)
  omega

/-- Rolling the columns of a stack moves the column that is read. -/
theorem at3_roll2 (w : BitVec 32) (p : FVec Ideal S8x160x160 .f32) (h : S8x160x160.Rotates 2 none) (e : Fin 8) (i j : ℕ) :
    at3 (dynamicRotate 2 w none p h) e i j = at3 p e i (j + (160 - w.toNat % 160)) := by
  unfold at3
  pointwise
  congr 1
  refine congrArg (fun x => ix3 e (wrap i) x) (Fin.ext ?_)
  simp only [wrap]
  have := Nat.mod_lt w.toNat (show 160 > 0 by decide)
  omega

theorem at2_addf (p q : FVec Ideal S160x160 .f32) (i j : ℕ) : at2 (addf p q) i j = at2 p i j + at2 q i j := rfl

/-- Ten consecutive rows, summed by doubling. -/
theorem at2_rows10 (p : FVec Ideal S160x160 .f32) (i j : ℕ) :
    at2 (rows10 p) i j = ∑ k ∈ Finset.range 10, at2 p (i + 155 + k) j := by
  unfold rows10
  dsimp only
  repeat first | rw [at2_roll0] | rw [at2_addf]
  simp only [ BitVec.toNat_ofNat, Nat.reducePow, Nat.reduceMod, Nat.reduceSub,
    Finset.sum_range_succ, Finset.sum_range_zero, zero_add, add_zero, add_assoc, Nat.reduceAdd]

/-- Ten consecutive columns, summed by doubling. -/
theorem at2_cols10 (p : FVec Ideal S160x160 .f32) (i j : ℕ) :
    at2 (cols10 p) i j = ∑ k ∈ Finset.range 10, at2 p i (j + 155 + k) := by
  unfold cols10
  dsimp only
  repeat first | rw [at2_roll1] | rw [at2_addf]
  simp only [ BitVec.toNat_ofNat, Nat.reducePow, Nat.reduceMod, Nat.reduceSub,
    Finset.sum_range_succ, Finset.sum_range_zero, zero_add, add_zero, add_assoc, Nat.reduceAdd]

theorem at2_dotE (y z : FVec Ideal S8x160x160 .f32) (i j : ℕ) :
    at2 (dotE y z) i j = ∑ e : Fin 8, at3 y e i j * at3 z e i j := by
  unfold at2 at3 dotE
  pointwise

/-- A finite extended real. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.zero : Fin' 0 := ⟨0, rfl⟩

theorem Fin'.sum {ι : Type} (s : Finset ι) (f : ι → EReal) (h : ∀ k ∈ s, Fin' (f k)) : Fin' (∑ k ∈ s, f k) := by
  classical
  induction s using Finset.induction_on with
  | empty => simpa using Fin'.zero
  | insert a s ha ih =>
    rw [Finset.sum_insert ha]
    exact (h a (Finset.mem_insert_self a s)).add (ih fun k hk => h k (Finset.mem_insert_of_mem hk))

theorem Fin'.sub_self {x : EReal} (hx : Fin' x) : x - x = 0 := by
  obtain ⟨a, rfl⟩ := hx; rw [← EReal.coe_sub]; simp

/-- On a row of finite numbers the two halves of the split product are the row itself and zero. -/
theorem at2_band (q : FVec Ideal S160x160 .f32) (b : FVec Ideal S160x160 .bf16) (i j : ℕ)
    (hq : ∀ k : Fin 160, Fin' (q (ix2 (wrap i) k))) :
    at2 (band q b) i j = ∑ k : Fin 160, q (ix2 (wrap i) k) * b (ix2 k (wrap j)) := by
  unfold at2 band
  pointwise
  simp only [(hq _).sub_self, zero_mul, Finset.sum_const_zero, add_zero]

theorem syW_toNat (i : grid0.Coords) : (syW i).toNat = (167 - (i 0).val) % 160 := by
  have h : ∀ a : Fin 15, (Scalar.remsi (Scalar.addi (Scalar.subi 0#32 (Scalar.subi (BitVec.ofNat 32 a.val) 7#32)) 160#32) 160#32).toNat
      = (167 - a.val) % 160 := by decide +kernel
  exact h (i 0)

theorem at3_pay24 (i : grid0.Coords) (x : FVec Ideal S8x160x160 .f32) (e : Fin 8) (I J : ℕ) :
    at3 (k0_pay24 i x) e I J = at3 x e (I + (i 0).val + 153) J := by
  have h : k0_pay24 i x = dynamicRotate 1 (syW i) none (shapeCast S8x160x160 x shapeCasts_S8x160x160_S8x160x160) rotates_S8x160x160_d1 := rfl
  have ha : (i 0).val < 15 := (i 0).isLt
  rw [h, at3_roll1, syW_toNat, shapeCast_self]
  refine at3_congr _ _ ?_ rfl
  omega

theorem at2_pay25 (i : grid0.Coords) (x : FVec Ideal S160x160 .f32) (I J : ℕ) :
    at2 (k0_pay25 i x) I J = at2 x (I + (i 0).val + 153) J := by
  have h : k0_pay25 i x = dynamicRotate 0 (syW i) none x rotates_S160x160_d0 := rfl
  have ha : (i 0).val < 15 := (i 0).isLt
  rw [h, at2_roll0, syW_toNat]
  refine at2_congr _ ?_ rfl
  omega

/-- A coordinate plus an offset lies in the image, as the body's words compute it. -/
theorem in_image : ∀ (a : Fin 15) (j : Fin 160),
    BitVec.setWidth 32 (IntOp.andi
      (IntOp.cmpi .sge (IntOp.addi (BitVec.ofNat 32 j.val) (Scalar.subi (BitVec.ofNat 32 a.val) 7#32)) 16#32)
      (IntOp.cmpi .slt (IntOp.addi (BitVec.ofNat 32 j.val) (Scalar.subi (BitVec.ofNat 32 a.val) 7#32)) 146#32))
      = if 23 ≤ j.val + a.val ∧ j.val + a.val < 153 then 1#32 else 0#32 := by decide +kernel

theorem off_centre : ∀ a : Fin 15,
    (Scalar.extui (Scalar.cmpi .ne (Scalar.subi (BitVec.ofNat 32 a.val) 7#32) 0#32) : BitVec 32)
      = if a.val = 7 then 0#32 else 1#32 := by decide +kernel

theorem sitofp_ite (p : Prop) [Decidable p] :
    (FloatOps.sitofp .f32 (if p then 1#32 else 0#32) : Ideal .f32) = if p then (1 : EReal) else 0 := by
  have h1 : (1#32).toInt = 1 := by decide
  have h0 : (0#32).toInt = 0 := by decide
  split
  · show (((1#32).toInt : ℝ) : EReal) = 1
    rw [h1]; simp
  · show (((0#32).toInt : ℝ) : EReal) = 0
    rw [h0]; simp

theorem colMask_val (d : Fin 15) (j : Fin 160) :
    (colMask (BitVec.ofNat 32 d.val - 7#32) : FVec Ideal S1x160 .f32) (ix2 0 j)
      = if 23 ≤ j.val + d.val ∧ j.val + d.val < 153 then (1 : EReal) else 0 := by
  pointwise [colMask]
  exact (congrArg (FloatOps.sitofp .f32) (in_image d j)).trans (sitofp_ite _)

theorem rowMask_val (i : grid0.Coords) (j : Fin 160) :
    (k0_pay26 i : FVec Ideal S160x1 .f32) (ix2 j 0)
      = if 23 ≤ j.val + (i 0).val ∧ j.val + (i 0).val < 153 then (1 : EReal) else 0 := by
  pointwise [k0_pay26]
  exact (congrArg (FloatOps.sitofp .f32) (in_image (i 0) j)).trans (sitofp_ite _)

theorem maskD_val (i : grid0.Coords) (d : Fin 15) (j : Fin 160) :
    (maskD i d : FVec Ideal S1x160 .f32) (ix2 0 j)
      = if (23 ≤ j.val + d.val ∧ j.val + d.val < 153) ∧ ¬((i 0).val = 7 ∧ d.val = 7) then (1 : EReal) else 0 := by
  have h0 : (Scalar.sitofp .f32 (Scalar.extui (Scalar.cmpi .ne (dyW i) 0#32) : BitVec 32) : Ideal .f32)
      = if (i 0).val = 7 then (0 : EReal) else 1 := by
    refine (congrArg (fun w => (FloatOps.sitofp .f32 w : Ideal .f32)) (off_centre (i 0))).trans ?_
    show (FloatOps.sitofp .f32 (if (i 0).val = 7 then 0#32 else 1#32) : Ideal .f32) = _
    have : (if (i 0).val = 7 then 0#32 else 1#32) = if ¬((i 0).val = 7) then 1#32 else 0#32 := by
      by_cases h : (i 0).val = 7 <;> simp [h]
    rw [this, sitofp_ite]
    by_cases h : (i 0).val = 7 <;> simp [h]
  unfold maskD
  by_cases hd : d.val = 7
  · rw [if_pos hd]
    show (colMask (BitVec.ofNat 32 d.val - 7#32) : FVec Ideal S1x160 .f32) (ix2 0 j) * _ = _
    rw [colMask_val]
    show _ * (Scalar.sitofp .f32 (Scalar.extui (Scalar.cmpi .ne (dyW i) 0#32) : BitVec 32) : Ideal .f32) = _
    rw [h0]
    by_cases h1 : (i 0).val = 7 <;> by_cases h2 : 23 ≤ j.val + d.val ∧ j.val + d.val < 153 <;> simp [h1, h2, hd]
  · rw [if_neg hd, colMask_val]
    simp [hd]

/-- Offset `(a, b)` takes pixel `(I, J)` to another pixel of the image. -/
def Ok (a b I J : ℕ) : Prop :=
  (23 ≤ I + a ∧ I + a < 153) ∧ (23 ≤ J + b ∧ J + b < 153) ∧ ¬(a = 7 ∧ b = 7)

instance (a b I J : ℕ) : Decidable (Ok a b I J) := by unfold Ok; infer_instance

/-- The constant two of the distances. -/
def two : EReal := Ideal.ofBits FTy.f32 0x40000000#32

/-- The large constant that stands where there is no neighbour. -/
def big : EReal := Ideal.ofBits FTy.f32 0x60AD78EC#32

theorem mask_val (i : grid0.Coords) (d : Fin 15) (I J : Fin 160) :
    (k0_pay26 i : FVec Ideal S160x1 .f32) (ix2 I 0) * (maskD i d : FVec Ideal S1x160 .f32) (ix2 0 J)
      = if Ok (i 0).val d.val I.val J.val then (1 : EReal) else 0 := by
  rw [rowMask_val, maskD_val]
  by_cases h1 : 23 ≤ I.val + (i 0).val ∧ I.val + (i 0).val < 153
  · by_cases h2 : (23 ≤ J.val + d.val ∧ J.val + d.val < 153) ∧ ¬((i 0).val = 7 ∧ d.val = 7)
    · rw [if_pos h1, if_pos h2, if_pos ⟨h1, h2.1, h2.2⟩, one_mul]
    · rw [if_neg h2, mul_zero, if_neg fun h => h2 ⟨h.2.1, h.2.2⟩]
  · rw [if_neg h1, zero_mul, if_neg fun h => h1 h.1]

/-- The channel products summed over ten rows, at column `k`. -/
def rowSum (y z : FVec Ideal S8x160x160 .f32) (a I k : ℕ) : EReal :=
  ∑ r ∈ Finset.range 10, ∑ e : Fin 8, at3 y e (I + 155 + r) k * at3 z e (I + 155 + r + a + 153) k

theorem at2_fin (v : FVec Ideal S160x160 .f32) (I J : Fin 160) : v (ix2 I J) = at2 v I.val J.val := by
  unfold at2; rw [wrap_val, wrap_val]

theorem rawD_val (d : Fin 15) (nxy ne q : FVec Ideal S160x160 .f32) (b : FVec Ideal S160x160 .bf16) (I J : Fin 160)
    (hq : ∀ k : Fin 160, Fin' (q (ix2 I k))) :
    rawD d nxy ne (band q b) (ix2 I J)
      = at2 ne I.val J.val + at2 nxy I.val (J.val + d.val + 153) - two * ∑ k : Fin 160, q (ix2 I k) * b (ix2 k J) := by
  have hd := d.isLt
  have hb := at2_band q b I.val J.val (by rw [wrap_val]; exact hq)
  rw [wrap_val, wrap_val] at hb
  have hroll := at2_roll1 (BitVec.ofNat 32 ((167 - d.val) % 160)) nxy rotates_S160x160_d1 I.val J.val
  refine (at2_fin _ I J).trans ?_
  show at2 ne I.val J.val + at2 (dynamicRotate 1 (BitVec.ofNat 32 ((167 - d.val) % 160)) none nxy rotates_S160x160_d1) I.val J.val
    - two * at2 (band q b) I.val J.val = _
  rw [hroll, hb]
  refine congrArg₂ (· - ·) (congrArg₂ (· + ·) rfl (at2_congr _ rfl ?_)) rfl
  rw [BitVec.toNat_ofNat]
  omega

/-- The channel products summed over ten rows, as the body computes them. -/
def prodRows (i : grid0.Coords) (y x0 : FVec Ideal S8x160x160 .f32) : FVec Ideal S160x160 .f32 :=
  rows10 (dotE y (k0_pay24 i x0))

theorem prodRows_val (i : grid0.Coords) (y x0 : FVec Ideal S8x160x160 .f32) (I k : Fin 160) :
    prodRows i y x0 (ix2 I k) = rowSum y x0 (i 0).val I.val k.val := by
  refine (at2_fin _ I k).trans ?_
  unfold prodRows rowSum
  rw [at2_rows10]
  refine Finset.sum_congr rfl fun r _ => ?_
  rw [at2_dotE]
  exact Finset.sum_congr rfl fun e _ => by rw [at3_pay24]

theorem shapeCast_slab (b : FVec Ideal S1x160x160 .bf16) (k J : Fin 160) :
    shapeCast S160x160 b shapeCasts_S1x160x160_S160x160 (ix2 k J) = b (ix3 0 k J) := by
  pointwise

theorem blend_val (x m : FVec Ideal S160x160 .f32) (I J : Fin 160) :
    blend x m (ix2 I J) = x (ix2 I J) * m (ix2 I J) + (1 - m (ix2 I J)) * big := by
  pointwise [blend]
  rfl

theorem blockD_val (i : grid0.Coords) (x0 : FVec Ideal S8x160x160 .f32) (ne nx : FVec Ideal S160x160 .f32)
    (y : Fin 15 → FVec Ideal S1x8x160x160 .f32) (b : Fin 15 → FVec Ideal S1x160x160 .bf16) (d : Fin 15) (I J : Fin 160)
    (hx : ∀ e i j, Fin' (at3 x0 e i j))
    (hy : ∀ e i j, Fin' (at3 (shapeCast S8x160x160 (y d) shapeCasts_S1x8x160x160_S8x160x160) e i j)) :
    blockD i x0 ne nx y b d (ix3 0 I J)
      = if Ok (i 0).val d.val I.val J.val then
          at2 ne I.val J.val + at2 nx (I.val + (i 0).val + 153) (J.val + d.val + 153)
            - two * ∑ k : Fin 160, rowSum (shapeCast S8x160x160 (y d) shapeCasts_S1x8x160x160_S8x160x160) x0 (i 0).val I.val k.val
                * b d (ix3 0 k J)
        else big := by
  have hfin : ∀ k : Fin 160, Fin' (prodRows i (shapeCast S8x160x160 (y d) shapeCasts_S1x8x160x160_S8x160x160) x0 (ix2 I k)) := by
    intro k
    rw [prodRows_val]
    exact Fin'.sum _ _ fun r _ => Fin'.sum _ _ fun e _ => (hy _ _ _).mul (hx _ _ _)
  have hraw := rawD_val d (k0_pay25 i nx) ne _ (shapeCast S160x160 (b d) shapeCasts_S1x160x160_S160x160) I J hfin
  rw [at2_pay25] at hraw
  simp only [prodRows_val, shapeCast_slab] at hraw
  have hb : blockD i x0 ne nx y b d (ix3 0 I J)
      = blend (rawD d (k0_pay25 i nx) ne (band (prodRows i (shapeCast S8x160x160 (y d) shapeCasts_S1x8x160x160_S8x160x160) x0)
          (shapeCast S160x160 (b d) shapeCasts_S1x160x160_S160x160)))
          (mulf (broadcastTo S160x160 (k0_pay26 i) broadcasts_S160x1_S160x160)
            (broadcastTo S160x160 (maskD i d) broadcasts_S1x160_S160x160)) (ix2 I J) := by
    unfold blockD prodRows
    generalize blend (F := Ideal) _ _ = v
    pointwise
  have hm : (mulf (broadcastTo S160x160 (k0_pay26 i) broadcasts_S160x1_S160x160)
            (broadcastTo S160x160 (maskD i d) broadcasts_S1x160_S160x160) : FVec Ideal S160x160 .f32) (ix2 I J)
      = if Ok (i 0).val d.val I.val J.val then (1 : EReal) else 0 := by
    rw [← mask_val]
    generalize (k0_pay26 i : FVec Ideal S160x1 .f32) = u
    generalize (maskD i d : FVec Ideal S1x160 .f32) = w
    pointwise
  rw [hb, blend_val, hm, hraw]
  by_cases h : Ok (i 0).val d.val I.val J.val
  · rw [if_pos h, if_pos h, mul_one, (show Fin' 1 from ⟨1, rfl⟩).sub_self, zero_mul, add_zero]
  · rw [if_neg h, if_neg h, mul_zero, sub_zero, one_mul, zero_add]

end Cert.Dist
end
-- ==== Proof.Points.lean ====
/- What the distance kernel's output block holds after each grid point, and the whole array of distances, in terms of
   the blocks of its three operands. -/
module

public import proofs.«01_k».proof.Proof.Value
public import Idealize.ShloMosaic.Adequacy
public import Idealize.ShloMosaic.Init
public import Idealize.ShloMosaic.Lib.Pipeline.ValueKit
public import Idealize.ShloMosaic.Lib.Claim

@[expose] public section
set_option maxRecDepth 16384
noncomputable section
namespace Cert.Dist
open Cert.KernelIdeal Cert.KernelIdeal.Gen Idealize.ShloMosaic Idealize.ShloMosaic.TcCoe Idealize.SL.Sem

section Generic
variable {F : FTy → Type} [FloatOps F]

theorem idx_zero (s : Shape) (off : Fin s.rank → ℕ) (h : ∀ a, off a + s.size a ≤ s.size a) (x : s.Idx) :
    (Rect.unit (s := s) off s.size h).toLoadRect.idx x = x := by
  funext a
  apply Fin.ext
  have h1 := h a
  show off a + 1 * (x a).val = (x a).val
  omega

theorem readAt_whole {κ : Kind} {sp : Space} {s : Shape} {e : EltTy} (a : Memref sig κ sp s e) (ha : a.IsWhole)
    (x : s.Idx → Elt F e) (off : Fin s.rank → ℕ) (h : ∀ a, off a + s.size a ≤ s.size a) :
    View.readAt (Elt F) a.view (Rect.unit (s := s) off s.size h).toLoadRect (ha.unread x) = x := by
  funext j
  rw [View.readAt_apply, idx_zero]
  exact congrFun (ha.read_unread x) j

theorem rdE_eq (a : Memref sig .tc .vmem S8x160x160 .f32) (ha : a.IsWhole) (x : Vec F S8x160x160 .f32) : rdE a ha x = x :=
  readAt_whole a ha x _ _

/-- The contents that the stores of the shifted embeddings leave. -/
def stackY (x1 : FVec F S8x160x160 .f32) : FVec F S15x8x160x160 .f32 := fun y => View.canon (yepPieces x1) y

/-- The contents that the store of the patch sums leaves. -/
def sums (x : FVec F S8x160x160 .f32) : FVec F S160x160 .f32 := fun y => View.canon (sqPieces x) y

/-- The contents that the fifteen stores of blocks leave. -/
def outBlock (i : grid0.Coords) (x0 x1 : FVec F S8x160x160 .f32) (x2 : FVec F S15x160x160 .bf16) : FVec F S15x160x160 .f32 :=
  fun y => View.canon (outPieces (blockD i x0 (sums x1) (sums x0) (slabY (stackY x1)) (slabB x2))) y

variable (c : Dev nD) (i : grid0.Coords) (arg1 : Memref sig .tc .vmem S8x160x160 .f32) (harg1 : arg1.IsWhole) (arg2 : Memref sig .tc .vmem S8x160x160 .f32) (harg2 : arg2.IsWhole) (arg3 : Memref sig .tc .vmem S15x160x160 .bf16) (harg3 : arg3.IsWhole) (arg4 : Memref sig .tc .vmem S15x160x160 .f32) (harg4 : arg4.IsWhole) (arg5 : Memref sig .tc .vmem S15x8x160x160 .f32) (harg5 : arg5.IsWhole) (arg6 : Memref sig .tc .vmem S160x160 .f32) (harg6 : arg6.IsWhole) (arg7 : Memref sig .tc .vmem S160x160 .f32) (harg7 : arg7.IsWhole)
    (x0 : Vec F S8x160x160 .f32) (x1 : Vec F S8x160x160 .f32) (x2 : Vec F S15x160x160 .bf16)

theorem soutA_0 (hc0 : cond0_0 i) : sout0_A_0 c i arg1 harg1 arg2 harg2 arg3 harg3 arg4 harg4 arg5 harg5 arg6 harg6 arg7 harg7 hc0 x0 x1 x2 = stackY x1 := by
  unfold sout0_A_0
  rw [piecesA_0, rdE_eq]
  exact funext fun y => View.read_writes_junk_apply_eq_canon _ y _

theorem soutA_1 (hc0 : cond0_0 i) : sout0_A_1 c i arg1 harg1 arg2 harg2 arg3 harg3 arg4 harg4 arg5 harg5 arg6 harg6 arg7 harg7 hc0 x0 x1 x2 = sums x1 := by
  unfold sout0_A_1
  rw [piecesA_1, rdE_eq]
  exact funext fun y => View.read_writes_junk_apply_eq_canon _ y _

theorem soutA_2 (hc0 : cond0_0 i) : sout0_A_2 c i arg1 harg1 arg2 harg2 arg3 harg3 arg4 harg4 arg5 harg5 arg6 harg6 arg7 harg7 hc0 x0 x1 x2 = sums x0 := by
  unfold sout0_A_2
  rw [piecesA_2, rdE_eq]
  exact funext fun y => View.read_writes_junk_apply_eq_canon _ y _

theorem slabB_eq (d : Fin 15) : View.readAt (Elt F) arg3.view (Rect.unit (s := S15x160x160) ![d.val, 0, 0] S1x160x160.size (inb3 d)).toLoadRect (harg3.unread x2) = slabB x2 d := by
  funext j
  rw [View.readAt_apply]
  exact congrFun (harg3.read_unread x2) _

theorem covSums (a : Memref sig .tc .vmem S160x160 .f32) (x : FVec F S8x160x160 .f32) :
    a.view.readCov (sqPieces x) (Rect.unit (s := S160x160) ![0, 0] S160x160.size inb_S160x160_S160x160_0_0).toLoadRect = sums x := by
  rw [View.readCov_eq_canon']
  funext y
  rw [idx_zero]
  rfl

theorem covStack (a : Memref sig .tc .vmem S15x8x160x160 .f32) (x : FVec F S8x160x160 .f32) (d : Fin 15) :
    a.view.readCov (yepPieces x) (Rect.unit (s := S15x8x160x160) ![d.val, 0, 0, 0] S1x8x160x160.size (inb4 d)).toLoadRect
      = slabY (stackY x) d := by
  unfold slabY stackY
  exact View.readCov_eq_canon' _ _ _

theorem outA (hc0 : cond0_0 i) : out0_A_3 c i arg1 harg1 arg2 harg2 arg3 harg3 arg4 harg4 arg5 harg5 arg6 harg6 arg7 harg7 hc0 x0 x1 x2 = outBlock i x0 x1 x2 := by
  unfold out0_A_3
  rw [piecesA_3, rdE_eq, rdE_eq, covSums, covSums, funext (covStack arg5 x1), funext (slabB_eq arg3 harg3 x2)]
  exact funext fun y => View.read_writes_junk_apply_eq_canon _ y _

theorem outB (hc0 : ¬cond0_0 i) (xs0 : Vec F S15x8x160x160 .f32) (xs1 : Vec F S160x160 .f32) (xs2 : Vec F S160x160 .f32)
    (h0 : xs0 = stackY x1) (h1 : xs1 = sums x1) (h2 : xs2 = sums x0) :
    out0_B_3 c i arg1 harg1 arg2 harg2 arg3 harg3 arg4 harg4 arg5 harg5 arg6 harg6 arg7 harg7 hc0 x0 x1 x2 xs0 xs1 xs2 = outBlock i x0 x1 x2 := by
  have hs : ∀ d : Fin 15, View.readAt (Elt F) arg5.view (Rect.unit (s := S15x8x160x160) ![d.val, 0, 0, 0] S1x8x160x160.size (inb4 d)).toLoadRect (harg5.unread xs0) = slabY xs0 d := fun d => by
    funext j
    rw [View.readAt_apply]
    exact congrFun (harg5.read_unread xs0) _
  unfold out0_B_3
  rw [piecesB, readAt_whole, readAt_whole, readAt_whole]
  rw [funext hs, funext (slabB_eq arg3 harg3 x2), h0, h1, h2]
  exact funext fun y => View.read_writes_junk_apply_eq_canon _ y _

end Generic

section Sweep
variable {F : FTy → Type} [FloatOps F] (m : (ℓ : Loc nD τ sig) → Buf (Elt F) ℓ)

theorem index0 : ∀ t : Fin cfg0.N, win0_0.index t = ![0, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem coords0 : ∀ t : Fin cfg0.N, ((grid0.coords t) 0).val = t.val := (by decide +kernel : ∀ t : Fin grid0.N, _)

/-- The first operand's array on entry: the padded `xe`. -/
def entX (c : Dev nD) : FVec F S8x160x160 .f32 := V m c main_call0_v1
/-- The second operand's array on entry: the padded `ye`. -/
def entY (c : Dev nD) : FVec F S8x160x160 .f32 := V m c main_call0_v3
/-- The third operand's array on entry: the band matrices. -/
def entB (c : Dev nD) : FVec F S15x160x160 .bf16 := V m c main_call0_v21

theorem vec0 (a : Fin 3) : (![0, 0, 0] : Fin 3 → ℕ) a = 0 := by
  match a with
  | ⟨0, _⟩ => rfl
  | ⟨1, _⟩ => rfl
  | ⟨2, _⟩ => rfl

theorem iblk0 (c : Dev nD) (t : Fin cfg0.N) : iblk m c 0 t = entX m c := by
  funext j
  blk_simp [iblk]
  refine congrArg (V m c main_call0_v1) (funext fun a => Fin.ext ?_)
  show win0_0.index t a * win0_0.size a + 1 * (j a).val = (j a).val
  rw [index0 t, vec0, Nat.zero_mul, Nat.zero_add, Nat.one_mul]
theorem iblk1 (c : Dev nD) (t : Fin cfg0.N) : iblk m c 1 t = entY m c := by
  funext j
  blk_simp [iblk]
  refine congrArg (V m c main_call0_v3) (funext fun a => Fin.ext ?_)
  show win0_1.index t a * win0_1.size a + 1 * (j a).val = (j a).val
  rw [index1 t, vec0, Nat.zero_mul, Nat.zero_add, Nat.one_mul]
theorem iblk2 (c : Dev nD) (t : Fin cfg0.N) : iblk m c 2 t = entB m c := by
  funext j
  blk_simp [iblk]
  refine congrArg (V m c main_call0_v21) (funext fun a => Fin.ext ?_)
  show win0_2.index t a * win0_2.size a + 1 * (j a).val = (j a).val
  rw [index2 t, vec0, Nat.zero_mul, Nat.zero_add, Nat.one_mul]

/-- After every point the output block holds that point's distances and the scratch what the first point left. -/
theorem outs_eq (c : Dev nD) : ∀ (n : ℕ) (hn : n < cfg0.N), outsAt0 m c n hn
    = (outBlock (grid0.coords ⟨n, hn⟩) (entX m c) (entY m c) (entB m c), stackY (entY m c), sums (entY m c), sums (entX m c)) := by
  intro n
  induction n with
  | zero =>
    intro hn
    rw [outsAt0_A m c ⟨0, hn⟩ (Nat.zero_mod _), outA, soutA_0, soutA_1, soutA_2, iblk0, iblk1, iblk2]
  | succ n ih =>
    intro hn
    have hN : n + 1 < 15 := lt_of_lt_of_eq hn (show cfg0.N = 15 from N_0)
    have h0 : ¬ (n + 1) % 15 = 0 := by omega
    have e := ih (Nat.lt_of_succ_lt hn)
    rw [outsAt0_B m c ⟨n + 1, hn⟩ h0]
    have e' : outsAt0 m c ((⟨n + 1, hn⟩ : Fin cfg0.N).val - 1) (Nat.lt_of_le_of_lt (Nat.sub_le _ _) hn)
      = (outBlock (grid0.coords ⟨n, Nat.lt_of_succ_lt hn⟩) (entX m c) (entY m c) (entB m c), stackY (entY m c), sums (entY m c), sums (entX m c)) := e
    rw [outB, iblk0, iblk1, iblk2]
    · unfold sout0_B_0 sout0_B_1 sout0_B_2
      rw [e']
    · rw [e', iblk1]
    · rw [e', iblk1]
    · rw [e', iblk0]

theorem G3_eq (c : Dev nD) (o : Fin 225) (I J : Fin 160) :
    Value.G3 m c (ix3 o I J) = outBlock (grid0.coords ⟨o.val / 15, lt_of_lt_of_eq (show o.val / 15 < 15 by have := o.isLt; omega) N_0.symm⟩)
      (entX m c) (entY m c) (entB m c) (ix3 ⟨o.val % 15, Nat.mod_lt _ (by decide)⟩ I J) := by
  have hI := I.isLt
  have hJ := J.isLt
  have ho := o.isLt
  have hp : Value.pt3Of (ix3 o I J) = o.val / 15 := by
    show 1 * (o.val / 15 - 0) + 1 * (I.val / 160 - 0) + 1 * (J.val / 160 - 0) = _
    omega
  have hl : Value.loc3Of (ix3 o I J) = ix3 ⟨o.val % 15, Nat.mod_lt _ (by decide)⟩ I J := by
    funext a
    match a with
    | ⟨0, _⟩ => rfl
    | ⟨1, _⟩ => exact Fin.ext (Nat.mod_eq_of_lt hI)
    | ⟨2, _⟩ => exact Fin.ext (Nat.mod_eq_of_lt hJ)
  have hlt : o.val / 15 < cfg0.N := by rw [show cfg0.N = 15 from N_0]; omega
  unfold Value.G3
  rw [dif_pos (by rw [hp]; exact hlt), hl, ← Value.outsAt0_sweep m c _ (by rw [hp]; exact hlt), outs_eq]
  simp only [hp]

end Sweep

end Cert.Dist
end
-- ==== Proof.Dist.lean ====
/- The array of distances that the kernel leaves, in closed form over the embedded images. -/
module

public import proofs.«01_k».proof.Proof.Points

@[expose] public section
set_option maxRecDepth 16384
noncomputable section
namespace Cert.Dist
open Cert.KernelIdeal Cert.KernelIdeal.Gen Idealize.ShloMosaic Idealize.ShloMosaic.TcCoe Idealize.SL.Sem

/-- Position minus column minus horizontal offset, as words. -/
def shiftW (s : Shape) (a b o : Fin s.rank) (h : S_.BroadcastsInDim s ![]) : IVec s 32 :=
  subi (subi (iotaInDim s 32 a) (iotaInDim s 32 b)) (subi (iotaInDim s 32 o) (broadcastInDim s ![] h (constantI S_ 32 7#32)))

/-- The band matrices, as the host builds them. -/
def bandHost {F : FTy → Type} [FloatOps F] : FVec F S15x160x160 .bf16 :=
  truncf .bf16 (uitofp .f32 (andi
    (cmpi .sge (shiftW S15x160x160 1 2 0 bcast_S_S15x160x160) (broadcastInDim S15x160x160 ![] bcast_S_S15x160x160 (constantI S_ 32 4294967291#32)))
    (cmpi .sle (shiftW S15x160x160 1 2 0 bcast_S_S15x160x160) (broadcastInDim S15x160x160 ![] bcast_S_S15x160x160 (constantI S_ 32 4#32)))))
    bitsLt_bf16_f32

variable (m : (ℓ : Loc nD τ sig) → Buf (Elt Ideal) ℓ)

theorem entB_eq (c : Dev nD) : entB m c = bandHost := by
  unfold entB
  entry_read
  rfl

theorem shift_word (d : Fin 15) (k J : Fin 160) :
    (BitVec.ofNat 32 k.val - BitVec.ofNat 32 J.val) - (BitVec.ofNat 32 d.val - 7#32)
      = BitVec.ofNat 32 (k.val + 175 - (J.val + d.val)) - 168#32 := by
  have hd := d.isLt
  have hk := k.isLt
  have hJ := J.isLt
  apply BitVec.eq_of_toNat_eq
  simp only [BitVec.toNat_sub, BitVec.toNat_ofNat]
  omega

theorem band_word : ∀ s : Fin 512,
    IntOp.andi (IntOp.cmpi .sge (BitVec.ofNat 32 s.val - 168#32) 4294967291#32)
      (IntOp.cmpi .sle (BitVec.ofNat 32 s.val - 168#32) 4#32)
      = if 163 ≤ s.val ∧ s.val ≤ 172 then 1#1 else 0#1 := by decide +kernel

/-- Entry `(k, J)` of band matrix `d` is one on ten consecutive rows and zero elsewhere. -/
theorem bandHost_val (d : Fin 15) (k J : Fin 160) :
    (bandHost : FVec Ideal S15x160x160 .bf16) (ix3 d k J)
      = if J.val + d.val ≤ k.val + 12 ∧ k.val + 3 ≤ J.val + d.val then (1 : EReal) else 0 := by
  have hd := d.isLt
  have hk := k.isLt
  have hJ := J.isLt
  pointwise [bandHost, shiftW]
  have h := band_word ⟨k.val + 175 - (J.val + d.val), by omega⟩
  rw [← shift_word] at h
  refine (congrArg (fun w => (FloatOps.uitofp .f32 w : Ideal .f32)) h).trans ?_
  show (FloatOps.uitofp .f32 (if 163 ≤ k.val + 175 - (J.val + d.val) ∧ k.val + 175 - (J.val + d.val) ≤ 172 then 1#1 else 0#1) : Ideal .f32) = _
  have h1 : (FloatOps.uitofp .f32 1#1 : Ideal .f32) = (1 : EReal) := by
    show (((1#1).toNat : ℝ) : EReal) = 1
    simp
  have h0 : (FloatOps.uitofp .f32 0#1 : Ideal .f32) = (0 : EReal) := by
    show (((0#1).toNat : ℝ) : EReal) = 0
    simp
  by_cases hc : J.val + d.val ≤ k.val + 12 ∧ k.val + 3 ≤ J.val + d.val
  · rw [if_pos hc, if_pos (by omega), h1]
  · rw [if_neg hc, if_neg (by omega), h0]

/-- A sum against a band column is the sum over the band's ten rows. -/
theorem sum_band (f : ℕ → EReal) (d : Fin 15) (J : Fin 160) (h : 23 ≤ J.val + d.val ∧ J.val + d.val < 153) :
    ∑ k : Fin 160, f k.val * (bandHost : FVec Ideal S15x160x160 .bf16) (ix3 d k J)
      = ∑ l ∈ Finset.range 10, f (J.val + d.val + l - 12) := by
  simp only [bandHost_val, mul_ite, mul_one, mul_zero]
  rw [Fin.sum_univ_eq_sum_range (fun k => if J.val + d.val ≤ k + 12 ∧ k + 3 ≤ J.val + d.val then f k else 0) 160,
    ← Finset.sum_filter]
  refine (Finset.sum_bij (fun l _ => J.val + d.val + l - 12) ?_ ?_ ?_ ?_).symm
  · intro l hl
    rw [Finset.mem_range] at hl
    rw [Finset.mem_filter, Finset.mem_range]
    omega
  · intro a ha b hb hab
    rw [Finset.mem_range] at ha hb
    have hab' : J.val + d.val + a - 12 = J.val + d.val + b - 12 := hab
    omega
  · intro k hk
    rw [Finset.mem_filter, Finset.mem_range] at hk
    refine ⟨k + 12 - (J.val + d.val), by rw [Finset.mem_range]; omega, ?_⟩
    show J.val + d.val + (k + 12 - (J.val + d.val)) - 12 = k
    omega
  · intro l _
    rfl

/-- An image embedded in the canvas: its pixels start at (17, 17), with zeros around them. -/
def emb (x : FVec Ideal S1x8x128x128 .f32) (e : Fin 8) (I J : ℕ) : EReal :=
  if h : (17 ≤ I ∧ I < 145) ∧ (17 ≤ J ∧ J < 145) then x (ix4 0 e ⟨I - 17, by omega⟩ ⟨J - 17, by omega⟩) else 0

/-- The sum over the ten by ten patch centred at a pixel. -/
def box (f : ℕ → ℕ → EReal) (I J : ℕ) : EReal :=
  ∑ k ∈ Finset.range 10, ∑ l ∈ Finset.range 10, f (I + k - 5) (J + l - 5)

/-- The squared norm of a pixel's embedding. -/
def sq (x : FVec Ideal S1x8x128x128 .f32) (I J : ℕ) : EReal := ∑ e : Fin 8, emb x e I J * emb x e I J

/-- The product of a pixel's embedding with its neighbour's. -/
def dot (x y : FVec Ideal S1x8x128x128 .f32) (a b I J : ℕ) : EReal :=
  ∑ e : Fin 8, emb y e I J * emb x e (I + a - 7) (J + b - 7)

/-- The distance of the patch at `(I, J)` to the patch at offset `(a - 7, b - 7)`. -/
def dist (x y : FVec Ideal S1x8x128x128 .f32) (a b I J : ℕ) : EReal :=
  if Ok a b I J then box (sq y) I J + box (sq x) (I + a - 7) (J + b - 7) - two * box (dot x y a b) I J else big

theorem zero_pad : (sitofp .f32 (constantI S_ 32 0#32) : FVec Ideal S_ .f32) (Shape.Idx.first h_S_) = 0 := by
  show (((0#32).toInt : ℝ) : EReal) = 0
  have h0 : (0#32).toInt = 0 := by decide
  rw [h0]
  simp

theorem padHost_val (x : FVec Ideal S1x8x128x128 .f32) (e : Fin 8) (I J : Fin 160) :
    pad S8x160x160 ![0, 17, 17] ![0, 15, 15] ![0, 0, 0] (shapeCast S8x128x128 x shapeCasts_S1x8x128x128_S8x128x128)
      (sitofp .f32 (constantI S_ 32 0#32)) pads_S8x128x128_S8x160x160_000_17150_17150 h_S_ (ix3 e I J)
      = emb x e I.val J.val := by
  have hz := zero_pad
  generalize (sitofp .f32 (constantI S_ 32 0#32) : FVec Ideal S_ .f32) = v at hz ⊢
  pointwise
  rw [hz]
  unfold emb
  by_cases h : (17 ≤ I.val ∧ I.val - 17 < 128) ∧ 17 ≤ J.val ∧ J.val - 17 < 128
  · rw [dif_pos h, dif_pos (by omega)]
  · rw [dif_neg h, dif_neg (by omega)]

theorem entX_eq (c : Dev nD) (e : Fin 8) (I J : Fin 160) : entX m c (ix3 e I J)
    = emb (m ((c : Thread nD τ).loc main_arg0)) e I.val J.val := by
  unfold entX
  entry_read
  exact padHost_val _ _ _ _

theorem entY_eq (c : Dev nD) (e : Fin 8) (I J : Fin 160) : entY m c (ix3 e I J)
    = emb (m ((c : Thread nD τ).loc main_arg1)) e I.val J.val := by
  unfold entY
  entry_read
  exact padHost_val _ _ _ _

/-- The stack of shifted embeddings, read at a pixel. -/
theorem stackY_val (x1 : FVec Ideal S8x160x160 .f32) (d : Fin 15) (e : Fin 8) (I J : Fin 160) :
    stackY x1 (ix4 d e I J) = at3 x1 e I.val (J.val + (167 - d.val)) := by
  have hd := d.isLt
  have h : View.read (Elt Ideal) VS0_0 (VS0_0.writes (Elt Ideal) VS0_0.junk (yepPieces x1)) (ix4 d e I J)
      = shapeCast S1x8x160x160 (dynamicRotate 2 (BitVec.ofNat 32 ((d.val + 153) % 160)) none
      (shapeCast S8x160x160 x1 shapeCasts_S8x160x160_S8x160x160) rotates_S8x160x160_d2) shapeCasts_S8x160x160_S1x8x160x160
        (ix4 0 e I J) := by
    refine View.read_tilePieces VS0_0 _ _ _ _ _ 15 (le_refl 15) _ d hd (ix4 0 e I J) ?_ (0 : Fin 4) ?_
    · intro a
      match a with
      | ⟨0, _⟩ => rfl
      | ⟨1, _⟩ => exact (Nat.zero_add _).symm
      | ⟨2, _⟩ => exact (Nat.zero_add _).symm
      | ⟨3, _⟩ => exact (Nat.zero_add _).symm
    · intro d' hne
      have hv : d'.val ≠ d.val := fun h => hne (Fin.ext h)
      show d.val < d'.val ∨ d'.val + 1 ≤ d.val
      omega
  refine ((View.read_writes_junk_apply_eq_canon VS0_0 _ _).symm.trans h).trans ?_
  have hr := at3_roll2 (BitVec.ofNat 32 ((d.val + 153) % 160)) x1 rotates_S8x160x160_d2 e I.val J.val
  rw [shapeCast_self]
  have hc : ∀ v : FVec Ideal S8x160x160 .f32, shapeCast S1x8x160x160 v shapeCasts_S8x160x160_S1x8x160x160 (ix4 0 e I J)
      = at3 v e I.val J.val := fun v => by
    unfold at3
    rw [wrap_val, wrap_val]
    pointwise
  rw [hc, hr]
  refine at3_congr _ _ rfl ?_
  rw [BitVec.toNat_ofNat]
  omega

/-- Slab `d` of that stack, read at a pixel. -/
theorem slabY_val (x1 : FVec Ideal S8x160x160 .f32) (d : Fin 15) (e : Fin 8) (I J : ℕ) :
    at3 (shapeCast S8x160x160 (slabY (stackY x1) d) shapeCasts_S1x8x160x160_S8x160x160) e I J
      = at3 x1 e I (J + (167 - d.val)) := by
  have hs : ∀ a b : Fin 160, slabY (stackY x1) d (ix4 0 e a b) = at3 x1 e a.val (b.val + (167 - d.val)) := fun a b => by
    rw [← stackY_val]
    unfold slabY
    refine congrArg (stackY x1) (funext fun k => Fin.ext ?_)
    match k with
    | ⟨0, _⟩ => show d.val + 1 * 0 = d.val; omega
    | ⟨1, _⟩ => show 0 + 1 * e.val = e.val; omega
    | ⟨2, _⟩ => show 0 + 1 * a.val = a.val; omega
    | ⟨3, _⟩ => show 0 + 1 * b.val = b.val; omega
  have hc : ∀ v : FVec Ideal S1x8x160x160 .f32, at3 (shapeCast S8x160x160 v shapeCasts_S1x8x160x160_S8x160x160) e I J
      = v (ix4 0 e (wrap I) (wrap J)) := fun v => by
    unfold at3
    pointwise
  rw [hc, hs]
  refine at3_congr _ _ ?_ ?_
  · show I % 160 % 160 = _; omega
  · show (J % 160 + (167 - d.val)) % 160 = _; omega

/-- The patch sums of squares, read at a pixel. -/
theorem sums_val (x : FVec Ideal S8x160x160 .f32) (I J : ℕ) :
    at2 (sums x) I J = ∑ k ∈ Finset.range 10, ∑ l ∈ Finset.range 10, ∑ e : Fin 8,
      at3 x e (I + 155 + k) (J + 155 + l) * at3 x e (I + 155 + k) (J + 155 + l) := by
  have h' : sums x = sqBox x := by
    unfold sums sqPieces
    generalize sqBox x = w
    refine View.canon_unit_zero (S := S160x160) (e := .f32) (Val := Elt Ideal) ?_ inb_S160x160_S160x160_0_0 w
    funext a
    match a with
    | ⟨0, _⟩ => rfl
    | ⟨1, _⟩ => rfl
  rw [h']
  unfold sqBox
  rw [shapeCast_self, shapeCast_self, at2_cols10]
  simp only [at2_rows10]
  rw [Finset.sum_comm]
  refine Finset.sum_congr rfl fun k _ => Finset.sum_congr rfl fun l _ => ?_
  rw [at2_dotE]

theorem emb_fin (x : FVec Ideal S1x8x128x128 .f32) (hx : ∀ i, Fin' (x i)) (e : Fin 8) (I J : ℕ) : Fin' (emb x e I J) := by
  unfold emb
  split
  · exact hx _
  · exact Fin'.zero

section Close
variable (x y : FVec Ideal S1x8x128x128 .f32) (X Y : FVec Ideal S8x160x160 .f32)
  (hX : ∀ (e : Fin 8) (I J : Fin 160), X (ix3 e I J) = emb x e I.val J.val)

include hX in
theorem at3_emb (e : Fin 8) {I J I' J' : ℕ} (hI : I % 160 = I') (hJ : J % 160 = J') : at3 X e I J = emb x e I' J' := by
  unfold at3
  rw [hX]
  exact congrArg₂ (emb x e) hI hJ

include hX in
/-- Inside the image, the patch sums of squares are those of the embedded image. -/
theorem sums_box {I J I' J' : ℕ} (hI : I % 160 = I') (hJ : J % 160 = J') (h : 5 ≤ I' ∧ I' < 155) (h' : 5 ≤ J' ∧ J' < 155) :
    at2 (sums X) I J = box (sq x) I' J' := by
  rw [sums_val]
  unfold box sq
  refine Finset.sum_congr rfl fun k hk => Finset.sum_congr rfl fun l hl => Finset.sum_congr rfl fun e _ => ?_
  rw [Finset.mem_range] at hk hl
  rw [at3_emb x X hX e (I' := I' + k - 5) (J' := J' + l - 5) (by omega) (by omega)]

variable (hY : ∀ (e : Fin 8) (I J : Fin 160), Y (ix3 e I J) = emb y e I.val J.val)
  (hx : ∀ i, Fin' (x i)) (hy : ∀ i, Fin' (y i))

omit hX hY in
theorem slabB_val (b : FVec Ideal S15x160x160 .bf16) (d : Fin 15) (k J : Fin 160) : slabB b d (ix3 0 k J) = b (ix3 d k J) := by
  unfold slabB
  refine congrArg b (funext fun q => Fin.ext ?_)
  match q with
  | ⟨0, _⟩ => show d.val + 1 * 0 = d.val; omega
  | ⟨1, _⟩ => show 0 + 1 * k.val = k.val; omega
  | ⟨2, _⟩ => show 0 + 1 * J.val = J.val; omega

include hX hY in
/-- The band product of the row sums is the patch sum of the products. -/
theorem cross_val (a : ℕ) (d : Fin 15) (I J : Fin 160) (hI : 16 ≤ I.val ∧ I.val < 146) (hJ : 16 ≤ J.val ∧ J.val < 146)
    (h1 : 23 ≤ I.val + a ∧ I.val + a < 153) (h2 : 23 ≤ J.val + d.val ∧ J.val + d.val < 153) :
    ∑ k : Fin 160, rowSum (shapeCast S8x160x160 (slabY (stackY Y) d) shapeCasts_S1x8x160x160_S8x160x160) X a I.val k.val
        * slabB (bandHost (F := Ideal)) d (ix3 0 k J) = box (dot x y a d.val) I.val J.val := by
  have hd := d.isLt
  simp only [slabB_val]
  rw [sum_band (fun k => rowSum (shapeCast S8x160x160 (slabY (stackY Y) d) shapeCasts_S1x8x160x160_S8x160x160) X a I.val k) d J h2]
  unfold rowSum box dot
  rw [Finset.sum_comm]
  refine Finset.sum_congr rfl fun k hk => Finset.sum_congr rfl fun l hl => Finset.sum_congr rfl fun e _ => ?_
  rw [Finset.mem_range] at hk hl
  rw [slabY_val, at3_emb x X hX e (I' := I.val + k - 5 + a - 7) (J' := J.val + l - 5 + d.val - 7) (by omega) (by omega),
    at3_emb y Y hY e (I' := I.val + k - 5) (J' := J.val + l - 5) (by omega) (by omega)]

include hX hY hx hy in
/-- In the image, the body's block `d` holds the distances. -/
theorem block_val (i : grid0.Coords) (d : Fin 15) (I J : Fin 160) (hI : 16 ≤ I.val ∧ I.val < 146) (hJ : 16 ≤ J.val ∧ J.val < 146) :
    blockD i X (sums Y) (sums X) (slabY (stackY Y)) (slabB bandHost) d (ix3 0 I J)
      = dist x y (i 0).val d.val I.val J.val := by
  have hXf : ∀ e I J, Fin' (at3 X e I J) := fun e I J => by
    rw [at3_emb x X hX e rfl rfl]; exact emb_fin x hx _ _ _
  have hYf : ∀ e I J, Fin' (at3 Y e I J) := fun e I J => by
    rw [at3_emb y Y hY e rfl rfl]; exact emb_fin y hy _ _ _
  refine (blockD_val i X (sums Y) (sums X) (slabY (stackY Y)) (slabB bandHost) d I J hXf
    (fun e I J => by rw [slabY_val]; exact hYf _ _ _)).trans ?_
  have hd := d.isLt
  unfold dist
  by_cases hok : Ok (i 0).val d.val I.val J.val
  swap
  · rw [if_neg hok, if_neg hok]
  rw [if_pos hok, if_pos hok]
  obtain ⟨h1, h2, -⟩ := hok
  rw [sums_box y Y hY (I' := I.val) (J' := J.val) (by omega) (by omega) (by omega) (by omega),
    sums_box x X hX (I' := I.val + (i 0).val - 7) (J' := J.val + d.val - 7) (by omega) (by omega) (by omega) (by omega),
    cross_val x y X Y hX hY (i 0).val d I J hI hJ h1 h2]

include hX hY hx hy in
theorem outBlock_val (i : grid0.Coords) (d : Fin 15) (I J : Fin 160) (hI : 16 ≤ I.val ∧ I.val < 146) (hJ : 16 ≤ J.val ∧ J.val < 146) :
    outBlock i X Y bandHost (ix3 d I J) = dist x y (i 0).val d.val I.val J.val := by
  rw [← block_val x y X Y hX hY hx hy i d I J hI hJ]
  refine (View.read_writes_junk_apply_eq_canon VO0_3 _ _).symm.trans ?_
  refine View.read_tilePieces VO0_3 _ _ _ _ _ 15 (le_refl 15) _ d d.isLt (ix3 0 I J) ?_ (0 : Fin 3) ?_
  · intro a
    match a with
    | ⟨0, _⟩ => rfl
    | ⟨1, _⟩ => exact (Nat.zero_add _).symm
    | ⟨2, _⟩ => exact (Nat.zero_add _).symm
  · intro d' hne
    have hv : d'.val ≠ d.val := fun h => hne (Fin.ext h)
    show d.val < d'.val ∨ d'.val + 1 ≤ d.val
    omega

end Close

/-- The array of distances, in the image. -/
theorem kernel_val (c : Dev nD) (hx : ∀ i, Fin' (m ((c : Thread nD τ).loc main_arg0) i))
    (hy : ∀ i, Fin' (m ((c : Thread nD τ).loc main_arg1) i)) (o : Fin 225) (I J : Fin 160)
    (hI : 16 ≤ I.val ∧ I.val < 146) (hJ : 16 ≤ J.val ∧ J.val < 146) :
    Value.G3 m c (ix3 o I J)
      = dist (m ((c : Thread nD τ).loc main_arg0)) (m ((c : Thread nD τ).loc main_arg1)) (o.val / 15) (o.val % 15) I.val J.val := by
  rw [G3_eq, entB_eq, outBlock_val _ _ _ _ (entX_eq m c) (entY_eq m c) hx hy _ _ _ _ hI hJ, coords0]

end Cert.Dist
end
-- ==== Proof.Ref.lean ====
/- The array of distances that the plain program leaves, in closed form over the embedded images. -/
module

public import proofs.«01_k».proof.Proof.Dist
public import proofs.«01_k».proof.Proof.Gen.ReferenceIdeal.Run

@[expose] public section
set_option maxRecDepth 16384
noncomputable section
namespace Cert.Dist.Ref
open Cert.ReferenceIdeal Cert.ReferenceIdeal.Gen Cert.ReferenceIdeal.Value Idealize.ShloMosaic Idealize.ShloMosaic.TcCoe Idealize.SL.Sem

variable (V : Valuation τ sig (Elt Ideal))

/-- The image searched in, as an array. -/
abbrev argX : FVec Ideal S1x8x128x128 .f32 := V (Proc.devRef .tc main_arg0)
/-- The image whose patches are matched, as an array. -/
abbrev argY : FVec Ideal S1x8x128x128 .f32 := V (Proc.devRef .tc main_arg1)

theorem zero_word : (sitofp .f32 (constantI S_ 32 0#32) : FVec Ideal S_ .f32) (Shape.Idx.first h_S_) = 0 := by
  show (((0#32).toInt : ℝ) : EReal) = 0
  have h0 : (0#32).toInt = 0 := by decide
  rw [h0]
  simp

theorem pad1_val (x : FVec Ideal S1x8x128x128 .f32) (e : Fin 8) (i j : Fin 130) :
    pad S8x130x130 ![0, 1, 1] ![0, 1, 1] ![0, 0, 0] (shapeCast S8x128x128 x shapeCasts_S1x8x128x128_S8x128x128)
      (sitofp .f32 (constantI S_ 32 0#32)) pads_S8x128x128_S8x130x130_000_110_110 h_S_ (ix3 e i j)
      = emb x e (i.val + 16) (j.val + 16) := by
  have hz := zero_word
  generalize (sitofp .f32 (constantI S_ 32 0#32) : FVec Ideal S_ .f32) = v at hz ⊢
  pointwise
  rw [hz]
  unfold emb
  by_cases h : (1 ≤ i.val ∧ i.val - 1 < 128) ∧ 1 ≤ j.val ∧ j.val - 1 < 128
  · rw [dif_pos h, dif_pos (by omega)]
    refine congrArg x ?_
    pointwise
    congr 1 <;> exact Fin.ext (by show _ = _; omega)
  · rw [dif_neg h, dif_neg (by omega)]

theorem v1_val (e : Fin 8) (i j : Fin 130) : res_main_v1 V (ix3 e i j) = emb (argX V) e (i.val + 16) (j.val + 16) :=
  pad1_val _ _ _ _

theorem v3_val (e : Fin 8) (i j : Fin 130) : res_main_v3 V (ix3 e i j) = emb (argY V) e (i.val + 16) (j.val + 16) :=
  pad1_val _ _ _ _

theorem emb_zero (x : FVec Ideal S1x8x128x128 .f32) (e : Fin 8) (I J : ℕ) (h : ¬((17 ≤ I ∧ I < 145) ∧ (17 ≤ J ∧ J < 145))) :
    emb x e I J = 0 := dif_neg h

/-- The squared norms, with a border. -/
theorem norms_val (z : FVec Ideal S8x130x130 .f32) (x : FVec Ideal S1x8x128x128 .f32)
    (hz : ∀ (e : Fin 8) (i j : Fin 130), z (ix3 e i j) = emb x e (i.val + 16) (j.val + 16)) (i j : Fin 139) :
    pad S139x139 ![5, 5] ![4, 4] ![0, 0] (Host.reduceAdd (mulf z z) (constant S_ .f32 0x00000000#32) reducesTo_S8x130x130_S130x130_d0 h_S_)
      (sitofp .f32 (constantI S_ 32 0#32)) pads_S130x130_S139x139_540_540 h_S_ (ix2 i j)
      = sq x (i.val + 11) (j.val + 11) := by
  have h0 := zero_word
  generalize (sitofp .f32 (constantI S_ 32 0#32) : FVec Ideal S_ .f32) = v at h0 ⊢
  pointwise
  rw [h0]
  unfold sq
  by_cases h : (5 ≤ i.val ∧ i.val - 5 < 130) ∧ 5 ≤ j.val ∧ j.val - 5 < 130
  · rw [dif_pos h]
    simp only [hz]
    rw [show i.val - 5 + 16 = i.val + 11 by omega, show j.val - 5 + 16 = j.val + 11 by omega]
  · rw [dif_neg h]
    refine (Finset.sum_eq_zero fun e _ => ?_).symm
    rw [emb_zero x e _ _ (by omega), zero_mul]

theorem ten (f : ℕ → EReal) (i : ℕ) : f i + f (1 + i) + f (2 + i) + f (3 + i) + f (4 + i) + f (5 + i) + f (6 + i) + f (7 + i)
    + f (8 + i) + f (9 + i) = ∑ k ∈ Finset.range 10, f (i + k) := by
  simp only [Finset.sum_range_succ, Finset.sum_range_zero, zero_add, add_zero, Nat.add_comm i]

/-- The piece that an offset names. -/
theorem pick (f : ℕ → EReal) (a i : ℕ) (ha : a < 15) :
    (if _h : a < 1 then f i else (if _h : a - 1 < 1 then f (1 + i) else (if _h : a - 1 - 1 < 1 then f (2 + i) else (if _h : a - 1 - 1 - 1 < 1 then f (3 + i) else (if _h : a - 1 - 1 - 1 - 1 < 1 then f (4 + i) else (if _h : a - 1 - 1 - 1 - 1 - 1 < 1 then f (5 + i) else (if _h : a - 1 - 1 - 1 - 1 - 1 - 1 < 1 then f (6 + i) else (if _h : a - 1 - 1 - 1 - 1 - 1 - 1 - 1 < 1 then f (7 + i) else (if _h : a - 1 - 1 - 1 - 1 - 1 - 1 - 1 - 1 < 1 then f (8 + i) else (if _h : a - 1 - 1 - 1 - 1 - 1 - 1 - 1 - 1 - 1 < 1 then f (9 + i) else (if _h : a - 1 - 1 - 1 - 1 - 1 - 1 - 1 - 1 - 1 - 1 < 1 then f (10 + i) else (if _h : a - 1 - 1 - 1 - 1 - 1 - 1 - 1 - 1 - 1 - 1 - 1 < 1 then f (11 + i) else (if _h : a - 1 - 1 - 1 - 1 - 1 - 1 - 1 - 1 - 1 - 1 - 1 - 1 < 1 then f (12 + i) else (if _h : a - 1 - 1 - 1 - 1 - 1 - 1 - 1 - 1 - 1 - 1 - 1 - 1 - 1 < 1 then f (13 + i) else f (14 + i))))))))))))))) = f (i + a) := by
  interval_cases a <;> simp [Nat.add_comm]

/-- Ten shifted rows added up. -/
def addRows (z : FVec Ideal S139x139 .f32) : FVec Ideal S130x139 .f32 :=
  (addf (addf (addf (addf (addf (addf (addf (addf (addf (addf (broadcastInDim S130x139 ![] bcast_S_S130x139 (constant S_ .f32 0x00000000#32)) (extractStridedSlice S130x139 ![0, 0] z slices_S139x139_S130x139_0_0)) (extractStridedSlice S130x139 ![1, 0] z slices_S139x139_S130x139_1_0)) (extractStridedSlice S130x139 ![2, 0] z slices_S139x139_S130x139_2_0)) (extractStridedSlice S130x139 ![3, 0] z slices_S139x139_S130x139_3_0)) (extractStridedSlice S130x139 ![4, 0] z slices_S139x139_S130x139_4_0)) (extractStridedSlice S130x139 ![5, 0] z slices_S139x139_S130x139_5_0)) (extractStridedSlice S130x139 ![6, 0] z slices_S139x139_S130x139_6_0)) (extractStridedSlice S130x139 ![7, 0] z slices_S139x139_S130x139_7_0)) (extractStridedSlice S130x139 ![8, 0] z slices_S139x139_S130x139_8_0)) (extractStridedSlice S130x139 ![9, 0] z slices_S139x139_S130x139_9_0))

/-- Ten shifted columns added up. -/
def addCols (z : FVec Ideal S130x139 .f32) : FVec Ideal S130x130 .f32 :=
  (addf (addf (addf (addf (addf (addf (addf (addf (addf (addf (broadcastInDim S130x130 ![] bcast_S_S130x130 (constant S_ .f32 0x00000000#32)) (extractStridedSlice S130x130 ![0, 0] z slices_S130x139_S130x130_0_0)) (extractStridedSlice S130x130 ![0, 1] z slices_S130x139_S130x130_0_1)) (extractStridedSlice S130x130 ![0, 2] z slices_S130x139_S130x130_0_2)) (extractStridedSlice S130x130 ![0, 3] z slices_S130x139_S130x130_0_3)) (extractStridedSlice S130x130 ![0, 4] z slices_S130x139_S130x130_0_4)) (extractStridedSlice S130x130 ![0, 5] z slices_S130x139_S130x130_0_5)) (extractStridedSlice S130x130 ![0, 6] z slices_S130x139_S130x130_0_6)) (extractStridedSlice S130x130 ![0, 7] z slices_S130x139_S130x130_0_7)) (extractStridedSlice S130x130 ![0, 8] z slices_S130x139_S130x130_0_8)) (extractStridedSlice S130x130 ![0, 9] z slices_S130x139_S130x130_0_9))

/-- Ten shifted rows of every block added up. -/
def addRows4 (z : FVec Ideal S15x15x139x139 .f32) : FVec Ideal S15x15x130x139 .f32 :=
  (addf (addf (addf (addf (addf (addf (addf (addf (addf (addf (broadcastInDim S15x15x130x139 ![] bcast_S_S15x15x130x139 (constant S_ .f32 0x00000000#32)) (extractStridedSlice S15x15x130x139 ![0, 0, 0, 0] z slices_S15x15x139x139_S15x15x130x139_0_0_0_0)) (extractStridedSlice S15x15x130x139 ![0, 0, 1, 0] z slices_S15x15x139x139_S15x15x130x139_0_0_1_0)) (extractStridedSlice S15x15x130x139 ![0, 0, 2, 0] z slices_S15x15x139x139_S15x15x130x139_0_0_2_0)) (extractStridedSlice S15x15x130x139 ![0, 0, 3, 0] z slices_S15x15x139x139_S15x15x130x139_0_0_3_0)) (extractStridedSlice S15x15x130x139 ![0, 0, 4, 0] z slices_S15x15x139x139_S15x15x130x139_0_0_4_0)) (extractStridedSlice S15x15x130x139 ![0, 0, 5, 0] z slices_S15x15x139x139_S15x15x130x139_0_0_5_0)) (extractStridedSlice S15x15x130x139 ![0, 0, 6, 0] z slices_S15x15x139x139_S15x15x130x139_0_0_6_0)) (extractStridedSlice S15x15x130x139 ![0, 0, 7, 0] z slices_S15x15x139x139_S15x15x130x139_0_0_7_0)) (extractStridedSlice S15x15x130x139 ![0, 0, 8, 0] z slices_S15x15x139x139_S15x15x130x139_0_0_8_0)) (extractStridedSlice S15x15x130x139 ![0, 0, 9, 0] z slices_S15x15x139x139_S15x15x130x139_0_0_9_0))

/-- Ten shifted columns of every block added up. -/
def addCols4 (z : FVec Ideal S15x15x130x139 .f32) : FVec Ideal S15x15x130x130 .f32 :=
  (addf (addf (addf (addf (addf (addf (addf (addf (addf (addf (broadcastInDim S15x15x130x130 ![] bcast_S_S15x15x130x130 (constant S_ .f32 0x00000000#32)) (extractStridedSlice S15x15x130x130 ![0, 0, 0, 0] z slices_S15x15x130x139_S15x15x130x130_0_0_0_0)) (extractStridedSlice S15x15x130x130 ![0, 0, 0, 1] z slices_S15x15x130x139_S15x15x130x130_0_0_0_1)) (extractStridedSlice S15x15x130x130 ![0, 0, 0, 2] z slices_S15x15x130x139_S15x15x130x130_0_0_0_2)) (extractStridedSlice S15x15x130x130 ![0, 0, 0, 3] z slices_S15x15x130x139_S15x15x130x130_0_0_0_3)) (extractStridedSlice S15x15x130x130 ![0, 0, 0, 4] z slices_S15x15x130x139_S15x15x130x130_0_0_0_4)) (extractStridedSlice S15x15x130x130 ![0, 0, 0, 5] z slices_S15x15x130x139_S15x15x130x130_0_0_0_5)) (extractStridedSlice S15x15x130x130 ![0, 0, 0, 6] z slices_S15x15x130x139_S15x15x130x130_0_0_0_6)) (extractStridedSlice S15x15x130x130 ![0, 0, 0, 7] z slices_S15x15x130x139_S15x15x130x130_0_0_0_7)) (extractStridedSlice S15x15x130x130 ![0, 0, 0, 8] z slices_S15x15x130x139_S15x15x130x130_0_0_0_8)) (extractStridedSlice S15x15x130x130 ![0, 0, 0, 9] z slices_S15x15x130x139_S15x15x130x130_0_0_0_9))

theorem addRows_val (z : FVec Ideal S139x139 .f32) (f : ℕ → ℕ → EReal) (hz : ∀ i j : Fin 139, z (ix2 i j) = f i.val j.val)
    (i : Fin 130) (j : Fin 139) : addRows z (ix2 i j) = ∑ k ∈ Finset.range 10, f (i.val + k) j.val := by
  unfold addRows
  pointwise
  simp only [hz]
  exact ten (fun t => f t j.val) i.val

theorem addCols_val (z : FVec Ideal S130x139 .f32) (f : ℕ → ℕ → EReal) (hz : ∀ (i : Fin 130) (j : Fin 139), z (ix2 i j) = f i.val j.val)
    (i j : Fin 130) : addCols z (ix2 i j) = ∑ k ∈ Finset.range 10, f i.val (j.val + k) := by
  unfold addCols
  pointwise
  simp only [hz]
  exact ten (fun t => f i.val t) j.val

theorem addRows4_val (z : FVec Ideal S15x15x139x139 .f32) (a b : Fin 15) (f : ℕ → ℕ → EReal)
    (hz : ∀ i j : Fin 139, z (ix4 a b i j) = f i.val j.val)
    (i : Fin 130) (j : Fin 139) : addRows4 z (ix4 a b i j) = ∑ k ∈ Finset.range 10, f (i.val + k) j.val := by
  unfold addRows4
  pointwise
  simp only [hz]
  exact ten (fun t => f t j.val) i.val

theorem addCols4_val (z : FVec Ideal S15x15x130x139 .f32) (a b : Fin 15) (f : ℕ → ℕ → EReal)
    (hz : ∀ (i : Fin 130) (j : Fin 139), z (ix4 a b i j) = f i.val j.val)
    (i j : Fin 130) : addCols4 z (ix4 a b i j) = ∑ k ∈ Finset.range 10, f i.val (j.val + k) := by
  unfold addCols4
  pointwise
  simp only [hz]
  exact ten (fun t => f i.val t) j.val

/-- Rows, then columns: the patch sum, ten pixels after the border's. -/
theorem box_of (f : ℕ → ℕ → EReal) (i j : ℕ) :
    ∑ l ∈ Finset.range 10, ∑ k ∈ Finset.range 10, f (i + k + 11) (j + l + 11) = box f (i + 16) (j + 16) := by
  rw [Finset.sum_comm]
  unfold box
  refine Finset.sum_congr rfl fun k _ => Finset.sum_congr rfl fun l _ => ?_
  rw [show i + k + 11 = i + 16 + k - 5 by omega, show j + l + 11 = j + 16 + l - 5 by omega]

/-- A plane's patch sums. -/
theorem boxes_val (z : FVec Ideal S139x139 .f32) (f : ℕ → ℕ → EReal) (hz : ∀ i j : Fin 139, z (ix2 i j) = f (i.val + 11) (j.val + 11))
    (i j : Fin 130) : addCols (addRows z) (ix2 i j) = box f (i.val + 16) (j.val + 16) := by
  rw [addCols_val _ (fun p q => ∑ k ∈ Finset.range 10, f (p + k + 11) (q + 11))
    (fun p q => addRows_val z (fun p q => f (p + 11) (q + 11)) hz p q) i j]
  exact box_of f i.val j.val

/-- A block's patch sums. -/
theorem boxes4_val (z : FVec Ideal S15x15x139x139 .f32) (a b : Fin 15) (f : ℕ → ℕ → EReal)
    (hz : ∀ i j : Fin 139, z (ix4 a b i j) = f (i.val + 11) (j.val + 11))
    (i j : Fin 130) : addCols4 (addRows4 z) (ix4 a b i j) = box f (i.val + 16) (j.val + 16) := by
  rw [addCols4_val _ a b (fun p q => ∑ k ∈ Finset.range 10, f (p + k + 11) (q + 11))
    (fun p q => addRows4_val z a b (fun p q => f (p + 11) (q + 11)) hz p q) i j]
  exact box_of f i.val j.val

theorem v6_val (i j : Fin 139) : res_main_v6 V (ix2 i j) = sq (argY V) (i.val + 11) (j.val + 11) :=
  norms_val _ _ (v3_val V) i j

theorem v51_val (i j : Fin 139) : res_main_v51 V (ix2 i j) = sq (argX V) (i.val + 11) (j.val + 11) :=
  norms_val _ _ (v1_val V) i j

/-- The embedding searched in, with its border. -/
theorem border_val (z : FVec Ideal S8x130x130 .f32) (x : FVec Ideal S1x8x128x128 .f32)
    (hz : ∀ (e : Fin 8) (i j : Fin 130), z (ix3 e i j) = emb x e (i.val + 16) (j.val + 16)) (e : Fin 8) (i j : Fin 144) :
    pad S8x144x144 ![0, 7, 7] ![0, 7, 7] ![0, 0, 0] z (sitofp .f32 (constantI S_ 32 0#32))
      pads_S8x130x130_S8x144x144_000_770_770 h_S_ (ix3 e i j) = emb x e (i.val + 9) (j.val + 9) := by
  have h0 := zero_word
  generalize (sitofp .f32 (constantI S_ 32 0#32) : FVec Ideal S_ .f32) = v at h0 ⊢
  pointwise
  rw [h0]
  by_cases h : (7 ≤ i.val ∧ i.val - 7 < 130) ∧ 7 ≤ j.val ∧ j.val - 7 < 130
  · rw [dif_pos h, hz]
    congr 1 <;> (show _ - 7 + 16 = _; omega)
  · rw [dif_neg h, emb_zero _ _ _ _ (by omega)]

theorem v94_val (e : Fin 8) (i j : Fin 144) : res_main_v94 V (ix3 e i j) = emb (argX V) e (i.val + 9) (j.val + 9) :=
  border_val _ _ (v1_val V) e i j

theorem v125_val (a : Fin 15) (e : Fin 8) (i : Fin 130) (j : Fin 144) :
    res_main_v125 V (ix4 a e i j) = emb (argX V) e (i.val + a.val + 9) (j.val + 9) := by
  unfold res_main_v125
  have h1 := v94_val V
  have ha := a.isLt
  obtain ⟨z, ez⟩ : ∃ z : FVec Ideal S8x144x144 .f32, res_main_v94 V = z := ⟨_, rfl⟩
  rw [ez] at h1 ⊢
  pointwise
  simp only [h1]
  exact pick (fun t => emb (argX V) e (t + 9) (j.val + 9)) a.val i.val ha

theorem v156_val (a b : Fin 15) (e : Fin 8) (i j : Fin 130) :
    res_main_v156 V (ix5 a b e i j) = emb (argX V) e (i.val + a.val + 9) (j.val + b.val + 9) := by
  unfold res_main_v156
  have h1 := v125_val V
  have hb := b.isLt
  obtain ⟨z, ez⟩ : ∃ z : FVec Ideal S15x8x130x144 .f32, res_main_v125 V = z := ⟨_, rfl⟩
  rw [ez] at h1 ⊢
  pointwise
  simp only [h1]
  exact pick (fun t => emb (argX V) e (i.val + a.val + 9) (t + 9)) b.val j.val hb

theorem v161_val (a b : Fin 15) (i j : Fin 139) :
    res_main_v161 V (ix4 a b i j) = dot (argX V) (argY V) a.val b.val (i.val + 11) (j.val + 11) := by
  unfold res_main_v161
  have h1 := v156_val V
  have h2 := v3_val V
  obtain ⟨z, ez⟩ : ∃ z : FVec Ideal S15x15x8x130x130 .f32, res_main_v156 V = z := ⟨_, rfl⟩
  rw [ez] at h1 ⊢
  obtain ⟨y, ey⟩ : ∃ y : FVec Ideal S8x130x130 .f32, res_main_v3 V = y := ⟨_, rfl⟩
  rw [ey] at h2 ⊢
  have hz := zero_word
  generalize (sitofp .f32 (constantI S_ 32 0#32) : FVec Ideal S_ .f32) = v at hz ⊢
  pointwise
  rw [hz]
  unfold dot
  by_cases h : (5 ≤ i.val ∧ i.val - 5 < 130) ∧ 5 ≤ j.val ∧ j.val - 5 < 130
  · rw [dif_pos h]
    simp only [h1, h2]
    refine Finset.sum_congr (M := EReal) rfl fun e _ => ?_
    rw [show i.val - 5 + 16 = i.val + 11 by omega, show j.val - 5 + 16 = j.val + 11 by omega,
      show i.val - 5 + a.val + 9 = i.val + 11 + a.val - 7 by omega, show j.val - 5 + b.val + 9 = j.val + 11 + b.val - 7 by omega]
  · rw [dif_neg h]
    refine Eq.symm (Finset.sum_eq_zero (M := EReal) fun e _ => ?_)
    rw [emb_zero (argY V) e _ _ (by omega), zero_mul]

/-- The patch sums searched in, with a border of zeros. -/
def edge (f : ℕ → ℕ → EReal) (p q : ℕ) : EReal := if (7 ≤ p ∧ p - 7 < 130) ∧ 7 ≤ q ∧ q - 7 < 130 then f (p + 9) (q + 9) else 0

theorem edge_val (z : FVec Ideal S130x130 .f32) (f : ℕ → ℕ → EReal) (hz : ∀ i j : Fin 130, z (ix2 i j) = f (i.val + 16) (j.val + 16))
    (p q : Fin 144) : pad S144x144 ![7, 7] ![7, 7] ![0, 0] z (sitofp .f32 (constantI S_ 32 0#32))
      pads_S130x130_S144x144_770_770 h_S_ (ix2 p q) = edge f p.val q.val := by
  have h0 := zero_word
  generalize (sitofp .f32 (constantI S_ 32 0#32) : FVec Ideal S_ .f32) = v at h0 ⊢
  pointwise
  rw [h0]
  unfold edge
  by_cases h : (7 ≤ p.val ∧ p.val - 7 < 130) ∧ 7 ≤ q.val ∧ q.val - 7 < 130
  · rw [dif_pos h, if_pos h, hz]
    congr 1 <;> (show _ - 7 + 16 = _; omega)
  · rw [dif_neg h, if_neg h]

theorem v204_val (p q : Fin 144) : res_main_v204 V (ix2 p q) = edge (box (sq (argX V))) p.val q.val :=
  edge_val _ _ (boxes_val (res_main_v51 V) (sq (argX V)) (v51_val V)) p q

theorem v235_val (a : Fin 15) (i : Fin 130) (q : Fin 144) :
    res_main_v235 V (ix3 a i q) = edge (box (sq (argX V))) (i.val + a.val) q.val := by
  unfold res_main_v235
  have h1 := v204_val V
  have ha := a.isLt
  obtain ⟨z, ez⟩ : ∃ z : FVec Ideal S144x144 .f32, res_main_v204 V = z := ⟨_, rfl⟩
  rw [ez] at h1 ⊢
  pointwise
  simp only [h1]
  exact pick (fun t => edge (box (sq (argX V))) t q.val) a.val i.val ha

theorem v266_val (a b : Fin 15) (i j : Fin 130) :
    res_main_v266 V (ix4 a b i j) = edge (box (sq (argX V))) (i.val + a.val) (j.val + b.val) := by
  unfold res_main_v266
  have h1 := v235_val V
  have hb := b.isLt
  obtain ⟨z, ez⟩ : ∃ z : FVec Ideal S15x130x144 .f32, res_main_v235 V = z := ⟨_, rfl⟩
  rw [ez] at h1 ⊢
  pointwise
  simp only [h1]
  exact pick (fun t => edge (box (sq (argX V))) (i.val + a.val) t) b.val j.val hb

end Cert.Dist.Ref
end
-- ==== Proof.RefOut.lean ====
/- The plain program's result, in closed form over the embedded images. -/
module

public import proofs.«01_k».proof.Proof.Ref

@[expose] public section
set_option maxRecDepth 16384
noncomputable section
namespace Cert.Dist.Ref
open Cert.ReferenceIdeal Cert.ReferenceIdeal.Gen Cert.ReferenceIdeal.Value Idealize.ShloMosaic Idealize.ShloMosaic.TcCoe Idealize.SL.Sem

variable (V : Valuation τ sig (Elt Ideal))

/-- Where an offset's neighbour lies in the image, and is not the pixel itself. -/
def validR : IVec S15x15x130x130 1 :=
  andi (andi (andi (andi (cmpi .sge (addi (iotaInDim S15x15x130x130 32 2) (subi (iotaInDim S15x15x130x130 32 0) (broadcastInDim S15x15x130x130 ![] bcast_S_S15x15x130x130 (constantI S_ 32 7#32)))) (broadcastInDim S15x15x130x130 ![] bcast_S_S15x15x130x130 (constantI S_ 32 0#32)))
    (cmpi .slt (addi (iotaInDim S15x15x130x130 32 2) (subi (iotaInDim S15x15x130x130 32 0) (broadcastInDim S15x15x130x130 ![] bcast_S_S15x15x130x130 (constantI S_ 32 7#32)))) (broadcastInDim S15x15x130x130 ![] bcast_S_S15x15x130x130 (constantI S_ 32 130#32))))
    (cmpi .sge (addi (iotaInDim S15x15x130x130 32 3) (subi (iotaInDim S15x15x130x130 32 1) (broadcastInDim S15x15x130x130 ![] bcast_S_S15x15x130x130 (constantI S_ 32 7#32)))) (broadcastInDim S15x15x130x130 ![] bcast_S_S15x15x130x130 (constantI S_ 32 0#32))))
    (cmpi .slt (addi (iotaInDim S15x15x130x130 32 3) (subi (iotaInDim S15x15x130x130 32 1) (broadcastInDim S15x15x130x130 ![] bcast_S_S15x15x130x130 (constantI S_ 32 7#32)))) (broadcastInDim S15x15x130x130 ![] bcast_S_S15x15x130x130 (constantI S_ 32 130#32))))
    (ori (cmpi .ne (subi (iotaInDim S15x15x130x130 32 0) (broadcastInDim S15x15x130x130 ![] bcast_S_S15x15x130x130 (constantI S_ 32 7#32))) (broadcastInDim S15x15x130x130 ![] bcast_S_S15x15x130x130 (constantI S_ 32 0#32)))
      (cmpi .ne (subi (iotaInDim S15x15x130x130 32 1) (broadcastInDim S15x15x130x130 ![] bcast_S_S15x15x130x130 (constantI S_ 32 7#32))) (broadcastInDim S15x15x130x130 ![] bcast_S_S15x15x130x130 (constantI S_ 32 0#32))))

/-- The distances before the padding, from the patch sums. -/
def gaps (ne : FVec Ideal S130x130 .f32) (nx cr : FVec Ideal S15x15x130x130 .f32) : FVec Ideal S15x15x130x130 .f32 :=
  select validR (subf (addf (broadcastInDim S15x15x130x130 ![0, 1, 2, 3] bcast_S1x1x130x130_S15x15x130x130_0_1_2_3 (broadcastInDim S1x1x130x130 ![2, 3] bcast_S130x130_S1x1x130x130_2_3 ne)) nx)
    (mulf (broadcastInDim S15x15x130x130 ![] bcast_S_S15x15x130x130 (constant S_ .f32 0x40000000#32)) cr))
    (broadcastInDim S15x15x130x130 ![] bcast_S_S15x15x130x130 (id (constant S_ .f32 0x60AD78EC#32)))

/-- The plain program's result. -/
def refOut : FVec Ideal S225x160x160 .f32 :=
  pad S225x160x160 ![0, 16, 16] ![0, 14, 14] ![0, 0, 0]
    (shapeCast S225x130x130 (gaps (addCols (addRows (res_main_v6 V))) (res_main_v266 V) (addCols4 (addRows4 (res_main_v161 V)))) shapeCasts_S15x15x130x130_S225x130x130)
    (sitofp .f32 (constantI S_ 32 0#32)) pads_S225x130x130_S225x160x160_000_16140_16140 h_S_

theorem low_word : ∀ (a : Fin 15) (j : Fin 130),
    IntOp.cmpi .sge (IntOp.addi (BitVec.ofNat 32 j.val) (IntOp.subi (BitVec.ofNat 32 a.val) 7#32)) 0#32
      = if 7 ≤ j.val + a.val then 1#1 else 0#1 := by decide +kernel

theorem high_word : ∀ (a : Fin 15) (j : Fin 130),
    IntOp.cmpi .slt (IntOp.addi (BitVec.ofNat 32 j.val) (IntOp.subi (BitVec.ofNat 32 a.val) 7#32)) 130#32
      = if j.val + a.val < 137 then 1#1 else 0#1 := by decide +kernel

theorem off_word : ∀ a : Fin 15, IntOp.cmpi .ne (IntOp.subi (BitVec.ofNat 32 a.val) 7#32) 0#32
      = if a.val = 7 then 0#1 else 1#1 := by decide +kernel

theorem five_bits (A B C D : Prop) [Decidable A] [Decidable B] [Decidable C] [Decidable D] (E F : Prop) [Decidable E] [Decidable F] :
    IntOp.andi (IntOp.andi (IntOp.andi (IntOp.andi (if A then 1#1 else 0#1) (if B then 1#1 else 0#1)) (if C then 1#1 else 0#1))
      (if D then 1#1 else 0#1)) (IntOp.ori (if E then 0#1 else 1#1) (if F then 0#1 else 1#1)) = 1#1
      ↔ (A ∧ B) ∧ (C ∧ D) ∧ ¬(E ∧ F) := by
  by_cases A <;> by_cases B <;> by_cases C <;> by_cases D <;> by_cases E <;> by_cases F <;> simp [*] <;> decide

theorem valid_val (a b : Fin 15) (i j : Fin 130) :
    validR (ix4 a b i j) = 1#1 ↔ Ok a.val b.val (i.val + 16) (j.val + 16) := by
  unfold validR
  pointwise
  rw [low_word, low_word, high_word, high_word, off_word, off_word, five_bits]
  unfold Ok
  omega

theorem gaps_val (ne : FVec Ideal S130x130 .f32) (nx cr : FVec Ideal S15x15x130x130 .f32) (a b : Fin 15) (i j : Fin 130) :
    gaps ne nx cr (ix4 a b i j) = if Ok a.val b.val (i.val + 16) (j.val + 16) then
      ne (ix2 i j) + nx (ix4 a b i j) - two * cr (ix4 a b i j) else big := by
  have hv := valid_val a b i j
  unfold gaps
  generalize validR = v at hv ⊢
  pointwise
  by_cases h : Ok a.val b.val (i.val + 16) (j.val + 16)
  · rw [if_pos h, hv.2 h]
    rfl
  · rw [if_neg h]
    have h0 : v (ix4 a b i j) = 0#1 := by
      have h1 : ∀ w : BitVec 1, w ≠ 1#1 → w = 0#1 := by decide
      exact h1 _ fun e => h (hv.1 e)
    rw [h0]
    rfl

theorem place_val (g : FVec Ideal S15x15x130x130 .f32) (o : Fin 225) (I J : Fin 160) (hI : 16 ≤ I.val ∧ I.val < 146) (hJ : 16 ≤ J.val ∧ J.val < 146) :
    pad S225x160x160 ![0, 16, 16] ![0, 14, 14] ![0, 0, 0] (shapeCast S225x130x130 g shapeCasts_S15x15x130x130_S225x130x130)
      (sitofp .f32 (constantI S_ 32 0#32)) pads_S225x130x130_S225x160x160_000_16140_16140 h_S_ (ix3 o I J)
      = g (ix4 ⟨o.val / 15, by omega⟩ ⟨o.val % 15, by omega⟩ ⟨I.val - 16, by omega⟩ ⟨J.val - 16, by omega⟩) := by
  generalize (sitofp .f32 (constantI S_ 32 0#32) : FVec Ideal S_ .f32) = v
  pointwise
  rw [dif_pos (by omega)]

theorem cell_val (a b : Fin 15) (i j : Fin 130) :
    gaps (addCols (addRows (res_main_v6 V))) (res_main_v266 V) (addCols4 (addRows4 (res_main_v161 V))) (ix4 a b i j)
      = dist (argX V) (argY V) a.val b.val (i.val + 16) (j.val + 16) := by
  rw [gaps_val]
  unfold dist
  by_cases h : Ok a.val b.val (i.val + 16) (j.val + 16)
  · rw [if_pos h, if_pos h]
    obtain ⟨h1, h2, -⟩ := h
    have e1 := boxes_val (res_main_v6 V) (sq (argY V)) (v6_val V) i j
    have e2 := boxes4_val (res_main_v161 V) a b (dot (argX V) (argY V) a.val b.val) (v161_val V a b) i j
    have e3 := v266_val V a b i j
    unfold edge at e3
    rw [if_pos (by omega), show i.val + a.val + 9 = i.val + 16 + a.val - 7 by omega,
      show j.val + b.val + 9 = j.val + 16 + b.val - 7 by omega] at e3
    exact congrArg₂ (fun s t : EReal => s - two * t) (congrArg₂ (fun s t : EReal => s + t) e1 e3) e2
  · rw [if_neg h, if_neg h]

/-- In the image, the plain program's result holds the distances. -/
theorem refOut_val (o : Fin 225) (I J : Fin 160) (hI : 16 ≤ I.val ∧ I.val < 146) (hJ : 16 ≤ J.val ∧ J.val < 146) :
    refOut V (ix3 o I J) = dist (argX V) (argY V) (o.val / 15) (o.val % 15) I.val J.val := by
  unfold refOut
  rw [place_val _ o I J hI hJ, cell_val]
  exact congrArg₂ (dist (argX V) (argY V) (o.val / 15) (o.val % 15)) (by show I.val - 16 + 16 = _; omega) (by show J.val - 16 + 16 = _; omega)

end Cert.Dist.Ref
end
-- ==== Proof.Agree.lean ====
/- Kernel and plain program leave the same distances in the image, from finite images. -/
module

public import proofs.«01_k».proof.Defs
public import proofs.«01_k».proof.Proof.Gen.Pre_finite
public import proofs.«01_k».proof.Proof.Gen.On_image
public import proofs.«01_k».proof.Proof.RefOut
public import Idealize.ShloMosaic.Lib.ReduceAll

@[expose] public section
set_option maxRecDepth 16384
noncomputable section
namespace Cert.Dist
open Idealize.ShloMosaic Idealize.ShloMosaic.TcCoe Idealize.SL.Sem Idealize.ShloMosaic.StableHlo

/-- A number whose absolute value lies under infinity is real. -/
theorem fin_of_lt (x : Ideal .f32) (h : FloatOps.cmpf .olt (FloatOps.absf x) (FloatOps.ofBits .f32 0x7F800000#32 : Ideal .f32) = 1#1) : Fin' x := by
  have h1 : BitVec.ofBool (decide ((max x (-x) : EReal) < (FloatOps.ofBits .f32 0x7F800000#32 : Ideal .f32))) = 1#1 := h
  have hb : ∀ b : Bool, BitVec.ofBool b = 1#1 → b = true := by decide
  have h2 := of_decide_eq_true (hb _ h1)
  induction x using EReal.rec with
  | bot => simp at h2
  | coe r => exact ⟨r, rfl⟩
  | top => simp at h2

theorem fin_args (x y : FVec Ideal ⟨4, ![1, 8, 128, 128]⟩ .f32) (h : Cert.Pre_finite.fn (F := Ideal) x y ix0 = 1#1) :
    (∀ i, Fin' (x i)) ∧ ∀ i, Fin' (y i) := by
  have hand : ∀ a b : BitVec 1, IntOp.andi a b = 1#1 → a = 1#1 ∧ b = 1#1 := by decide
  obtain ⟨h1, h2⟩ := hand _ _ h
  exact ⟨fun i => fin_of_lt _ (Host.reduce_andi_all _ _ _ _ _ h1 i), fun i => fin_of_lt _ (Host.reduce_andi_all _ _ _ _ _ h2 i)⟩

theorem image_word : ∀ i : Fin 160, IntOp.andi (IntOp.cmpi .sge (BitVec.ofNat 32 i.val) 16#32) (IntOp.cmpi .slt (BitVec.ofNat 32 i.val) 146#32) = 1#1
    → 16 ≤ i.val ∧ i.val < 146 := by decide +kernel

/-- An index that the mask selects lies in the image. -/
theorem image_val (x y : FVec Ideal ⟨4, ![1, 8, 128, 128]⟩ .f32) (o : Fin 225) (I J : Fin 160)
    (h : Cert.On_image.fn (F := Ideal) x y (ix3 o I J) = 1#1) : (16 ≤ I.val ∧ I.val < 146) ∧ (16 ≤ J.val ∧ J.val < 146) := by
  have h4 : ∀ a b c d : BitVec 1, IntOp.andi (IntOp.andi (IntOp.andi a b) c) d = 1#1 → IntOp.andi a b = 1#1 ∧ IntOp.andi c d = 1#1 := by decide
  obtain ⟨h1, h2⟩ := h4 _ _ _ _ h
  exact ⟨image_word I h1, image_word J h2⟩

/-- The plain program ends with its arguments as they were, and it has no semaphores. -/
theorem plain_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's array and the plain program's agree in the image. -/
theorem agree : Cert.algebraic_KernelIdeal_ReferenceIdeal_on_image_pre_finite := by
  intro m g m' g' hpre hm
  refine ⟨fun c => Cert.KernelIdeal.Value.G3 m c, ?_, ?_⟩
  · exact (θ_run _ _ _).mono (fun r h c => ⟨fun i _ => congrFun (h c).1 i, (h c).2.1, (h c).2.2⟩) (Cert.KernelIdeal.Value.run m g)
  · refine (θ_run _ _ _).mono (fun r h c => ⟨fun i hi => ?_, (h c).2.1, (h c).2.2⟩) (Cert.ReferenceIdeal.Value.run m' g')
    have hr : r.2.mem ((c.tc : Thread Cert.ReferenceIdeal.nD Cert.ReferenceIdeal.τ).loc Cert.ReferenceIdeal.main_v302)
        = Ref.refOut (launchContents m' c) := (h c).1
    rw [hr]
    obtain ⟨o, I, J, rfl⟩ : ∃ (o : Fin 225) (I J : Fin 160), i = ix3 o I J := ⟨i 0, i 1, i 2, by
      funext a
      match a with
      | ⟨0, _⟩ => rfl
      | ⟨1, _⟩ => rfl
      | ⟨2, _⟩ => rfl⟩
    obtain ⟨hI, hJ⟩ := image_val _ _ o I J hi
    obtain ⟨hx, hy⟩ := fin_args (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (congrFun (hpre c) ix0)
    clear hr
    refine (Ref.refOut_val _ o I J hI hJ).trans (Eq.trans ?_ (kernel_val m c hx hy o I J hI hJ).symm)
    have e0 : Ref.argX (launchContents m' c) = m ((c.tc : Thread Cert.KernelIdeal.nD Cert.KernelIdeal.τ).loc Cert.KernelIdeal.main_arg0) := (hm c).1
    have e1 : Ref.argY (launchContents m' c) = m ((c.tc : Thread Cert.KernelIdeal.nD Cert.KernelIdeal.τ).loc Cert.KernelIdeal.main_arg1) := (hm c).2
    rw [e0, e1]

end Cert.Dist
end
-- ==== Proof.AggBlock.lean ====
/- One grid point of the aggregation kernel: what it adds for one horizontal offset, as a function of the offset, and the
   lists of stores of the three cases of the kernel's body in terms of the sum of fifteen such terms. -/
module

public import proofs.«01_k».proof.Proof.Gen.Kernel2Ideal.Value
public import proofs.«01_k».proof.Proof.Points
public import Idealize.ShloMosaic.Lib.WritesUnit

@[expose] public section
set_option maxRecDepth 16384
noncomputable section
namespace Cert.Agg
open Cert.Kernel2Ideal Cert.Kernel2Ideal.Gen Idealize.ShloMosaic Idealize.ShloMosaic.TcCoe Idealize.SL.Sem

variable {F : FTy → Type} [FloatOps F]

/-- The sum of ten consecutive rows, by doubling, from four above to five below. -/
def rowsB (p : FVec F S160x160 .f32) : FVec F S160x160 .f32 :=
  let s2 := addf p (dynamicRotate 0 159#32 none p rotates_S160x160_d0)
  let s4 := addf s2 (dynamicRotate 0 158#32 none s2 rotates_S160x160_d0)
  let s8 := addf s4 (dynamicRotate 0 156#32 none s4 rotates_S160x160_d0)
  let t := addf s8 (dynamicRotate 0 152#32 none s2 rotates_S160x160_d0)
  dynamicRotate 0 4#32 none t rotates_S160x160_d0

/-- A product with a band matrix, the left factor split in a high and a low half. -/
def bandB (q : FVec F S160x160 .f32) (b : FVec F S160x160 .bf16) : FVec F S160x160 .f32 :=
  let hi := truncf .bf16 q bitsLt_bf16_f32
  let lo := truncf .bf16 (subf q (extf .f32 hi bitsLt_bf16_f32)) bitsLt_bf16_f32
  addf (matmul dot_S160x160_S160x160_S160x160_1_0_0_1_n_n none hi b (constant S160x160 .f32 0x00000000#32))
    (matmul dot_S160x160_S160x160_S160x160_1_0_0_1_n_n none lo b (constant S160x160 .f32 0x00000000#32))

/-- The weight of a neighbour at each pixel, from its distances, the thresholds, the minima and the inverse normalizers. -/
def weight (d tau dmin invz : FVec F S160x160 .f32) : FVec F S160x160 .f32 :=
  mulf (select (cmpf .ole d tau) (exp (subf dmin d)) (broadcast S160x160 (Scalar.ofBits .f32 0x00000000#32))) invz

/-- What the body adds for block `d`, from the image `y` moved vertically. -/
def term (y : FVec F S3x160x160 .f32) (tau dmin invz : FVec F S160x160 .f32) (ds : Fin 15 → FVec F S1x160x160 .f32)
    (bd : FVec F S160x160 .bf16) (d : Fin 15) : FVec F S3x160x160 .f32 :=
  mulf
    (broadcastTo S3x160x160
      (shapeCast S1x160x160
        (bandB (rowsB (weight (shapeCast S160x160 (ds d) shapeCasts_S1x160x160_S160x160) tau dmin invz))
          (shapeCast S160x160 bd shapeCasts_S160x160_S160x160))
        shapeCasts_S160x160_S1x160x160)
      broadcasts_S1x160x160_S3x160x160)
    (dynamicRotate 2 (BitVec.ofNat 32 ((167 - d.val) % 160)) none y rotates_S3x160x160_d2)

/-- The first `n` of fifteen terms, added in order. -/
def acc (T : Fin 15 → FVec F S3x160x160 .f32) : (n : ℕ) → n ≤ 15 → FVec F S3x160x160 .f32
  | 0, _ => broadcast S3x160x160 (Scalar.ofBits .f32 0x00000000#32)
  | n + 1, h => addf (acc T n (Nat.le_of_succ_le h)) (T ⟨n, h⟩)

/-- What the output holds after a grid point, from what it held before. -/
def step (i : grid0.Coords) (x : FVec F S3x160x160 .f32) (tau dmin invz : FVec F S160x160 .f32)
    (ds : Fin 15 → FVec F S1x160x160 .f32) (bd : FVec F S160x160 .bf16) (prev : FVec F S3x160x160 .f32) :
    FVec F S3x160x160 .f32 :=
  addf (shapeCast S3x160x160 prev shapeCasts_S3x160x160_S3x160x160)
    (acc (term (k0_pay3 i x) tau dmin invz ds bd) 15 (le_refl 15))

theorem inb3 (d : Fin 15) (a : Fin S15x160x160.rank) : (![d.val, 0, 0] : Fin 3 → ℕ) a + S1x160x160.size a ≤ S15x160x160.size a := by
  have := d.isLt
  match a with
  | ⟨0, _⟩ => show d.val + 1 ≤ 15; omega
  | ⟨1, _⟩ => exact le_refl _
  | ⟨2, _⟩ => exact le_refl _

/-- Slab `d` of the distances of one grid point. -/
def slabD (D : FVec F S15x160x160 .f32) (d : Fin 15) : FVec F S1x160x160 .f32 :=
  fun j => D ((Rect.unit (s := S15x160x160) ![d.val, 0, 0] S1x160x160.size (inb3 d)).toLoadRect.idx j)

/-- A store of the whole output. -/
def whole (v : FVec F S3x160x160 .f32) : View.Piece (Elt F) S3x160x160 .f32 :=
  ⟨Rect.unit (s := S3x160x160) ![0, 0, 0] S3x160x160.size inb_S3x160x160_S3x160x160_0_0_0, v⟩

/-- The image array read whole. -/
abbrev rd3 (a : Memref sig .tc .vmem S3x160x160 .f32) (ha : a.IsWhole) (x : Vec F S3x160x160 .f32) : Vec F S3x160x160 .f32 :=
  View.readAt (Elt F) a.view (Rect.unit (s := S3x160x160) ![0, 0, 0] S3x160x160.size inb_S3x160x160_S3x160x160_0_0_0).toLoadRect (ha.unread x)

/-- A plane read whole. -/
abbrev rd2 {e : EltTy} (a : Memref sig .tc .vmem S160x160 e) (ha : a.IsWhole) (x : Vec F S160x160 e) : Vec F S160x160 e :=
  View.readAt (Elt F) a.view (Rect.unit (s := S160x160) ![0, 0] S160x160.size inb_S160x160_S160x160_0_0).toLoadRect (ha.unread x)

/-- The output read whole after stores. -/
abbrev rdCov (a : Memref sig .tc .vmem S3x160x160 .f32) (L : List (View.Piece (Elt F) S3x160x160 .f32)) : Vec F S3x160x160 .f32 :=
  a.view.readCov L (Rect.unit (s := S3x160x160) ![0, 0, 0] S3x160x160.size inb_S3x160x160_S3x160x160_0_0_0).toLoadRect

section Cases

variable (c : Dev nD) (i : grid0.Coords) (arg1 : Memref sig .tc .vmem S15x160x160 .f32) (harg1 : arg1.IsWhole) (arg2 : Memref sig .tc .vmem S3x160x160 .f32) (harg2 : arg2.IsWhole) (arg3 : Memref sig .tc .vmem S160x160 .bf16) (harg3 : arg3.IsWhole) (arg4 : Memref sig .tc .vmem S160x160 .f32) (harg4 : arg4.IsWhole) (arg5 : Memref sig .tc .vmem S160x160 .f32) (harg5 : arg5.IsWhole) (arg6 : Memref sig .tc .vmem S160x160 .f32) (harg6 : arg6.IsWhole) (arg7 : Memref sig .tc .vmem S3x160x160 .f32) (harg7 : arg7.IsWhole)
    (x0 : Vec F S15x160x160 .f32) (x1 : Vec F S3x160x160 .f32) (x2 : Vec F S160x160 .bf16) (x3 : Vec F S160x160 .f32) (x4 : Vec F S160x160 .f32) (x5 : Vec F S160x160 .f32) (xo6 : Vec F S3x160x160 .f32)

/-- The step of a grid point, from the loads of its operands. -/
abbrev stepRd (prev : Vec F S3x160x160 .f32) : FVec F S3x160x160 .f32 :=
  step i (rd3 arg2 harg2 x1) (rd2 arg4 harg4 x3) (rd2 arg5 harg5 x4) (rd2 arg6 harg6 x5)
    (fun d => View.readAt (Elt F) arg1.view (Rect.unit (s := S15x160x160) ![d.val, 0, 0] S1x160x160.size (inb3 d)).toLoadRect (harg1.unread x0))
    (rd2 arg3 harg3 x2) prev

set_option maxHeartbeats 4000000 in
theorem piecesA (hc0 : cond0_0 i) (hc1 : ¬cond0_1 i) :
    (kernelRun0_A c i arg1 harg1 arg2 harg2 arg3 harg3 arg4 harg4 arg5 harg5 arg6 harg6 arg7 harg7 hc0 hc1 x0 x1 x2 x3 x4 x5).1
      = [whole (stepRd i arg1 harg1 arg2 harg2 arg3 harg3 arg4 harg4 arg5 harg5 arg6 harg6 x0 x1 x2 x3 x4 x5
          (rdCov arg7 [whole k0_pay37])), whole k0_pay37] := by
  rfl

set_option maxHeartbeats 4000000 in
theorem piecesB (hc0 : ¬cond0_0 i) (hc1 : ¬cond0_1 i) :
    (kernelRun0_B c i arg1 harg1 arg2 harg2 arg3 harg3 arg4 harg4 arg5 harg5 arg6 harg6 arg7 harg7 hc0 hc1 x0 x1 x2 x3 x4 x5 xo6).1
      = [whole (stepRd i arg1 harg1 arg2 harg2 arg3 harg3 arg4 harg4 arg5 harg5 arg6 harg6 x0 x1 x2 x3 x4 x5
          (rd3 arg7 harg7 xo6))] := by
  rfl

set_option maxHeartbeats 4000000 in
theorem piecesC (hc0 : ¬cond0_0 i) (hc1 : cond0_1 i) :
    (kernelRun0_C c i arg1 harg1 arg2 harg2 arg3 harg3 arg4 harg4 arg5 harg5 arg6 harg6 arg7 harg7 hc0 hc1 x0 x1 x2 x3 x4 x5 xo6).1
      = [whole (k0_pay1 (k0_pay2 (rdCov arg7 [whole (stepRd i arg1 harg1 arg2 harg2 arg3 harg3 arg4 harg4 arg5 harg5 arg6 harg6 x0 x1 x2 x3 x4 x5
          (rd3 arg7 harg7 xo6))])) (rd3 arg2 harg2 x1)),
        whole (stepRd i arg1 harg1 arg2 harg2 arg3 harg3 arg4 harg4 arg5 harg5 arg6 harg6 x0 x1 x2 x3 x4 x5
          (rd3 arg7 harg7 xo6))] := by
  rfl

end Cases

end Cert.Agg
end
-- ==== Proof.Regroup.lean ====
/- The weighted sum over overlapping patches, regrouped: adding every patch's weighted pixels where they lie is the same as
   weighting each neighbour by its patch-summed weight, for finite numbers. -/
module

public import proofs.«01_k».proof.Proof.Value

@[expose] public section
noncomputable section
namespace Cert.Agg
open Cert.Dist Idealize.ShloMosaic

theorem fin_add_mul {x y z : EReal} (hx : Fin' x) (hy : Fin' y) (hz : Fin' z) : (x + y) * z = x * z + y * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, add_mul]

theorem fin_sum_mul {ι : Type} (s : Finset ι) (f : ι → EReal) (y : EReal) (hf : ∀ k, Fin' (f k)) (hy : Fin' y) :
    (∑ k ∈ s, f k) * y = ∑ k ∈ s, f k * y := by
  classical
  induction s using Finset.induction_on with
  | empty => simp
  | insert a s ha ih =>
    rw [Finset.sum_insert ha, Finset.sum_insert ha, fin_add_mul (hf a) (Fin'.sum s f fun k _ => hf k) hy, ih]

/-- A pixel of the canvas lies in the image. -/
def In (I J : ℕ) : Prop := (16 ≤ I ∧ I < 146) ∧ (16 ≤ J ∧ J < 146)

instance (I J : ℕ) : Decidable (In I J) := by unfold In; infer_instance

/-- The sum of a plane of weights over the patches that cover a pixel. -/
def cover (w : ℕ → ℕ → EReal) (I J : ℕ) : EReal :=
  ∑ k ∈ Finset.range 10, ∑ l ∈ Finset.range 10, w (I + k - 4) (J + l - 4)

/-- Each neighbour weighted by its covering weights. -/
def gathered (w : ℕ → ℕ → ℕ → ℕ → EReal) (x : ℕ → ℕ → EReal) (I J : ℕ) : EReal :=
  ∑ a ∈ Finset.range 15, ∑ b ∈ Finset.range 15, cover (w a b) I J * x (I + a - 7) (J + b - 7)

/-- The weighted pixels of every patch, added where they lie: patch entry `(r, s)` of the pixel `(I + 5 - r, J + 5 - s)`. -/
def overlapped (w : ℕ → ℕ → ℕ → ℕ → EReal) (x : ℕ → ℕ → EReal) (I J : ℕ) : EReal :=
  ∑ r ∈ Finset.range 10, ∑ s ∈ Finset.range 10,
    if In (I + 5 - r) (J + 5 - s) then
      ∑ a ∈ Finset.range 15, ∑ b ∈ Finset.range 15, w a b (I + 5 - r) (J + 5 - s) * x (I + a - 7) (J + b - 7)
    else 0

theorem cover_flip (w : ℕ → ℕ → EReal) (I J : ℕ) :
    cover w I J = ∑ r ∈ Finset.range 10, ∑ s ∈ Finset.range 10, w (I + 5 - r) (J + 5 - s) := by
  unfold cover
  rw [← Finset.sum_range_reflect]
  refine Finset.sum_congr rfl fun r hr => ?_
  rw [← Finset.sum_range_reflect]
  refine Finset.sum_congr rfl fun s hs => ?_
  rw [Finset.mem_range] at hr hs
  rw [show I + (10 - 1 - r) - 4 = I + 5 - r by omega, show J + (10 - 1 - s) - 4 = J + 5 - s by omega]

/-- The two sums agree, for finite numbers and weights that vanish outside the image. -/
theorem overlapped_eq (w : ℕ → ℕ → ℕ → ℕ → EReal) (x : ℕ → ℕ → EReal) (hw : ∀ a b p q, Fin' (w a b p q))
    (hx : ∀ p q, Fin' (x p q)) (I J : ℕ) (h0 : ∀ a b r s, r < 10 → s < 10 → ¬In (I + 5 - r) (J + 5 - s) → w a b (I + 5 - r) (J + 5 - s) = 0) :
    overlapped w x I J = gathered w x I J := by
  have h1 : overlapped w x I J = ∑ r ∈ Finset.range 10, ∑ s ∈ Finset.range 10,
      ∑ a ∈ Finset.range 15, ∑ b ∈ Finset.range 15, w a b (I + 5 - r) (J + 5 - s) * x (I + a - 7) (J + b - 7) := by
    refine Finset.sum_congr rfl fun r hr => Finset.sum_congr rfl fun s hs => ?_
    rw [Finset.mem_range] at hr hs
    by_cases h : In (I + 5 - r) (J + 5 - s)
    · rw [if_pos h]
    · rw [if_neg h]
      refine (Finset.sum_eq_zero fun a _ => Finset.sum_eq_zero fun b _ => ?_).symm
      rw [h0 a b r s hr hs h, zero_mul]
  rw [h1]
  unfold gathered
  have h2 : ∀ a b, cover (w a b) I J * x (I + a - 7) (J + b - 7)
      = ∑ r ∈ Finset.range 10, ∑ s ∈ Finset.range 10, w a b (I + 5 - r) (J + 5 - s) * x (I + a - 7) (J + b - 7) := by
    intro a b
    rw [cover_flip, fin_sum_mul _ _ _ (fun r => Fin'.sum _ _ fun s _ => hw _ _ _ _) (hx _ _)]
    exact Finset.sum_congr rfl fun r _ => fin_sum_mul _ _ _ (fun s => hw _ _ _ _) (hx _ _)
  simp only [h2]
  calc ∑ r ∈ Finset.range 10, ∑ s ∈ Finset.range 10, ∑ a ∈ Finset.range 15, ∑ b ∈ Finset.range 15, w a b (I + 5 - r) (J + 5 - s) * x (I + a - 7) (J + b - 7)
      = ∑ r ∈ Finset.range 10, ∑ a ∈ Finset.range 15, ∑ s ∈ Finset.range 10, ∑ b ∈ Finset.range 15, w a b (I + 5 - r) (J + 5 - s) * x (I + a - 7) (J + b - 7) :=
        Finset.sum_congr rfl fun r _ => Finset.sum_comm
    _ = ∑ a ∈ Finset.range 15, ∑ r ∈ Finset.range 10, ∑ s ∈ Finset.range 10, ∑ b ∈ Finset.range 15, w a b (I + 5 - r) (J + 5 - s) * x (I + a - 7) (J + b - 7) :=
        Finset.sum_comm
    _ = _ := Finset.sum_congr rfl fun a _ => by
        rw [Finset.sum_congr rfl fun r _ => Finset.sum_comm, Finset.sum_comm]

/-- The number of patches that cover a coordinate. -/
def cntN (I : ℕ) : ℕ := ((Finset.range 10).filter fun r => 16 ≤ I + 5 - r ∧ I + 5 - r < 146).card

/-- Ones added over the patches that cover a pixel count them. -/
theorem count_eq (I J : ℕ) :
    ∑ r ∈ Finset.range 10, ∑ s ∈ Finset.range 10, (if In (I + 5 - r) (J + 5 - s) then (1 : EReal) else 0)
      = ((cntN I * cntN J : ℕ) : EReal) := by
  have h : ∀ r s, (if In (I + 5 - r) (J + 5 - s) then (1 : EReal) else 0)
      = (((if 16 ≤ I + 5 - r ∧ I + 5 - r < 146 then 1 else 0) * (if 16 ≤ J + 5 - s ∧ J + 5 - s < 146 then 1 else 0) : ℕ) : EReal) := by
    intro r s
    unfold In
    by_cases h1 : 16 ≤ I + 5 - r ∧ I + 5 - r < 146 <;> by_cases h2 : 16 ≤ J + 5 - s ∧ J + 5 - s < 146 <;> simp [h1, h2]
  simp only [h, ← Nat.cast_sum]
  rw [← Finset.sum_mul_sum]
  unfold cntN
  rw [Finset.card_filter, Finset.card_filter]

end Cert.Agg
end
-- ==== Proof.AggValue.lean ====
/- The values of the aggregation kernel's vector operations over the extended reals, read at a pixel. Coordinates are
   natural numbers, taken modulo the canvas. -/
module

public import proofs.«01_k».proof.Proof.AggBlock
public import proofs.«01_k».proof.Proof.Regroup
public import Idealize.ShloMosaic.Lib.IdealHost

@[expose] public section
set_option maxRecDepth 16384
noncomputable section
namespace Cert.Agg
open Cert.Kernel2Ideal Cert.Kernel2Ideal.Gen Cert.Dist Idealize.ShloMosaic Idealize.ShloMosaic.TcCoe Idealize.SL.Sem

/-- Read a stack of three canvases at a pixel, around its edges. -/
def atC (v : FVec Ideal S3x160x160 .f32) (e : Fin 3) (i j : ℕ) : EReal := v (ix3 e (wrap i) (wrap j))

theorem atC_congr (v : FVec Ideal S3x160x160 .f32) (e : Fin 3) {i j i' j' : ℕ} (hi : i % 160 = i' % 160)
    (hj : j % 160 = j' % 160) : atC v e i j = atC v e i' j' := by
  unfold atC; rw [wrap_congr hi, wrap_congr hj]

theorem atC_fin (v : FVec Ideal S3x160x160 .f32) (e : Fin 3) (I J : Fin 160) : v (ix3 e I J) = atC v e I.val J.val := by
  unfold atC; rw [wrap_val, wrap_val]

/-- Rolling the rows of a stack moves the row that is read. -/
theorem atC_roll1 (w : BitVec 32) (p : FVec Ideal S3x160x160 .f32) (h : S3x160x160.Rotates 1 none) (e : Fin 3) (i j : ℕ) :
    atC (dynamicRotate 1 w none p h) e i j = atC p e (i + (160 - w.toNat % 160)) j := by
  unfold atC
  pointwise
  congr 1
  refine congrArg (fun x => ix3 e x (wrap j)) (Fin.ext ?_)
  simp only [wrap]
  have := Nat.mod_lt w.toNat (show 160 > 0 by decide)
  omega

/-- Rolling the columns of a stack moves the column that is read. -/
theorem atC_roll2 (w : BitVec 32) (p : FVec Ideal S3x160x160 .f32) (h : S3x160x160.Rotates 2 none) (e : Fin 3) (i j : ℕ) :
    atC (dynamicRotate 2 w none p h) e i j = atC p e i (j + (160 - w.toNat % 160)) := by
  unfold atC
  pointwise
  congr 1
  refine congrArg (fun x => ix3 e (wrap i) x) (Fin.ext ?_)
  simp only [wrap]
  have := Nat.mod_lt w.toNat (show 160 > 0 by decide)
  omega

/-- The rotation that a vertical offset asks for. -/
def syN (i : grid0.Coords) : BitVec 32 :=
  Scalar.remsi (Scalar.addi (Scalar.subi 0#32 (Scalar.subi (BitVec.ofNat 32 (i 0).val) 7#32)) 160#32) 160#32

theorem syN_toNat (i : grid0.Coords) : (syN i).toNat = (167 - (i 0).val) % 160 := by
  have h : ∀ a : Fin 15, (Scalar.remsi (Scalar.addi (Scalar.subi 0#32 (Scalar.subi (BitVec.ofNat 32 a.val) 7#32)) 160#32) 160#32).toNat
      = (167 - a.val) % 160 := by decide +kernel
  exact h (i 0)

theorem atC_pay3 (i : grid0.Coords) (x : FVec Ideal S3x160x160 .f32) (e : Fin 3) (I J : ℕ) :
    atC (k0_pay3 i x) e I J = atC x e (I + (i 0).val + 153) J := by
  have h : k0_pay3 i x = dynamicRotate 1 (syN i) none (shapeCast S3x160x160 x shapeCasts_S3x160x160_S3x160x160) rotates_S3x160x160_d1 := rfl
  have ha : (i 0).val < 15 := (i 0).isLt
  rw [h, atC_roll1, syN_toNat, shapeCast_self]
  refine atC_congr _ _ ?_ rfl
  omega

/-- Ten consecutive rows, summed by doubling. -/
theorem at2_rowsB (p : FVec Ideal S160x160 .f32) (i j : ℕ) :
    at2 (rowsB p) i j = ∑ k ∈ Finset.range 10, at2 p (i + 156 + k) j := by
  unfold rowsB
  dsimp only
  repeat first | rw [at2_roll0] | rw [at2_addf]
  simp only [ BitVec.toNat_ofNat, Nat.reducePow, Nat.reduceMod, Nat.reduceSub,
    Finset.sum_range_succ, Finset.sum_range_zero, zero_add, add_zero, add_assoc, Nat.reduceAdd]

theorem at2_bandB (q : FVec Ideal S160x160 .f32) (b : FVec Ideal S160x160 .bf16) (i j : ℕ)
    (hq : ∀ k : Fin 160, Fin' (q (ix2 (wrap i) k))) :
    at2 (bandB q b) i j = ∑ k : Fin 160, q (ix2 (wrap i) k) * b (ix2 k (wrap j)) :=
  at2_band q b i j hq

/-- The weight of one neighbour of one pixel: zero beyond the threshold. -/
def wgt (d t n z : EReal) : EReal :=
  Scalar.select (FloatOps.cmpf (F := Ideal) (φ := .f32) .ole d t) (Ideal.exp (n - d)) 0 * z

theorem wgt_fin {d t n z : EReal} (hd : Fin' d) (hn : Fin' n) (hz : Fin' z) : Fin' (wgt d t n z) := by
  obtain ⟨a, rfl⟩ := hd
  obtain ⟨b, rfl⟩ := hn
  refine Fin'.mul ?_ hz
  unfold Scalar.select
  split
  · exact ⟨Real.exp (b - a), rfl⟩
  · exact Fin'.zero

theorem wgt_zero (d t n : EReal) : wgt d t n 0 = 0 := mul_zero _

theorem at2_weight (d tau dmin invz : FVec Ideal S160x160 .f32) (i j : ℕ) :
    at2 (weight d tau dmin invz) i j = wgt (at2 d i j) (at2 tau i j) (at2 dmin i j) (at2 invz i j) := by
  unfold at2 weight wgt
  pointwise

/-- The band matrix: one on ten consecutive rows, from four above to five below. -/
def IsBand (b : FVec Ideal S160x160 .bf16) : Prop :=
  ∀ k J : Fin 160, b (ix2 k J) = if J.val ≤ k.val + 4 ∧ k.val ≤ J.val + 5 then (1 : EReal) else 0

/-- A sum against a band column is the sum over the band's ten rows. -/
theorem sum_bandB (f : ℕ → EReal) (b : FVec Ideal S160x160 .bf16) (hb : IsBand b) (J : Fin 160) (h : 16 ≤ J.val ∧ J.val < 146) :
    ∑ k : Fin 160, f k.val * b (ix2 k J) = ∑ l ∈ Finset.range 10, f (J.val + l - 4) := by
  simp only [hb _ J, mul_ite, mul_one, mul_zero]
  rw [Fin.sum_univ_eq_sum_range (fun k => if J.val ≤ k + 4 ∧ k ≤ J.val + 5 then f k else 0) 160,
    ← Finset.sum_filter]
  refine (Finset.sum_bij (fun l _ => J.val + l - 4) ?_ ?_ ?_ ?_).symm
  · intro l hl
    rw [Finset.mem_range] at hl
    rw [Finset.mem_filter, Finset.mem_range]
    omega
  · intro a ha b hb hab
    rw [Finset.mem_range] at ha hb
    have hab' : J.val + a - 4 = J.val + b - 4 := hab
    omega
  · intro k hk
    rw [Finset.mem_filter, Finset.mem_range] at hk
    refine ⟨k + 4 - J.val, by rw [Finset.mem_range]; omega, ?_⟩
    show J.val + (k + 4 - J.val) - 4 = k
    omega
  · intro l _
    rfl

/-- The band product of the row sums is the sum over the covering patches. -/
theorem cover_val (W : FVec Ideal S160x160 .f32) (b : FVec Ideal S160x160 .bf16) (hb : IsBand b)
    (hW : ∀ i j, Fin' (at2 W i j)) (I J : Fin 160) (hI : 16 ≤ I.val ∧ I.val < 146) (hJ : 16 ≤ J.val ∧ J.val < 146) :
    at2 (bandB (rowsB W) b) I.val J.val = cover (at2 W) I.val J.val := by
  have hr : ∀ k : Fin 160, rowsB W (ix2 I k) = ∑ r ∈ Finset.range 10, at2 W (I.val + 156 + r) k.val := fun k =>
    (at2_fin _ I k).trans (at2_rowsB W I.val k.val)
  rw [at2_bandB _ _ _ _ (by rw [wrap_val]; intro k; rw [hr]; exact Fin'.sum _ _ fun r _ => hW _ _), wrap_val, wrap_val]
  simp only [hr]
  rw [sum_bandB (fun k => ∑ r ∈ Finset.range 10, at2 W (I.val + 156 + r) k) b hb J hJ, Finset.sum_comm]
  unfold cover
  refine Finset.sum_congr rfl fun k hk => Finset.sum_congr rfl fun l hl => ?_
  rw [Finset.mem_range] at hk hl
  refine at2_congr _ ?_ rfl
  omega

theorem term_val (y : FVec Ideal S3x160x160 .f32) (tau dmin invz : FVec Ideal S160x160 .f32) (ds : Fin 15 → FVec Ideal S1x160x160 .f32)
    (bd : FVec Ideal S160x160 .bf16) (hb : IsBand bd) (d : Fin 15)
    (hW : ∀ i j, Fin' (at2 (weight (shapeCast S160x160 (ds d) shapeCasts_S1x160x160_S160x160) tau dmin invz) i j))
    (e : Fin 3) (I J : Fin 160) (hI : 16 ≤ I.val ∧ I.val < 146) (hJ : 16 ≤ J.val ∧ J.val < 146) :
    term y tau dmin invz ds bd d (ix3 e I J)
      = cover (at2 (weight (shapeCast S160x160 (ds d) shapeCasts_S1x160x160_S160x160) tau dmin invz)) I.val J.val
        * atC y e I.val (J.val + d.val + 153) := by
  have hd := d.isLt
  have h1 := cover_val _ bd hb hW I J hI hJ
  have h2 := atC_roll2 (BitVec.ofNat 32 ((167 - d.val) % 160)) y rotates_S3x160x160_d2 e I.val J.val
  rw [show atC y e I.val (J.val + (160 - (BitVec.ofNat 32 ((167 - d.val) % 160)).toNat % 160)) = atC y e I.val (J.val + d.val + 153) from
    atC_congr _ _ rfl (by rw [BitVec.toNat_ofNat]; omega)] at h2
  rw [← h1, ← h2, ← at2_fin, ← atC_fin]
  unfold term
  rw [shapeCast_self bd]
  generalize bandB _ bd = q
  generalize dynamicRotate 2 _ none y rotates_S3x160x160_d2 = z
  pointwise

theorem acc_val (T : Fin 15 → FVec Ideal S3x160x160 .f32) (p : S3x160x160.Idx) (f : ℕ → EReal) (hT : ∀ d : Fin 15, T d p = f d.val) :
    ∀ (n : ℕ) (h : n ≤ 15), acc T n h p = ∑ b ∈ Finset.range n, f b := by
  intro n
  induction n with
  | zero =>
    intro h
    show (Ideal.ofBits .f32 0x00000000#32 : EReal) = _
    rw [Ideal.ofBits_zero_f32, Finset.sum_range_zero]
  | succ n ih =>
    intro h
    rw [Finset.sum_range_succ, ← ih (Nat.le_of_succ_le h), ← hT ⟨n, h⟩]
    rfl

theorem slabD_val (D : FVec Ideal S15x160x160 .f32) (d : Fin 15) (i j : ℕ) :
    at2 (shapeCast S160x160 (slabD D d) shapeCasts_S1x160x160_S160x160) i j = D (ix3 d (wrap i) (wrap j)) := by
  have hs : ∀ a b : Fin 160, slabD D d (ix3 0 a b) = D (ix3 d a b) := fun a b => by
    unfold slabD
    refine congrArg D (funext fun k => Fin.ext ?_)
    match k with
    | ⟨0, _⟩ => show d.val + 1 * 0 = d.val; omega
    | ⟨1, _⟩ => show 0 + 1 * a.val = a.val; omega
    | ⟨2, _⟩ => show 0 + 1 * b.val = b.val; omega
  rw [← hs]
  generalize slabD D d = v
  unfold at2
  pointwise

/-- What a grid point adds at a pixel of the image. -/
theorem step_val (i : grid0.Coords) (x : FVec Ideal S3x160x160 .f32) (tau dmin invz : FVec Ideal S160x160 .f32)
    (D : FVec Ideal S15x160x160 .f32) (bd : FVec Ideal S160x160 .bf16) (hb : IsBand bd) (prev : FVec Ideal S3x160x160 .f32)
    (w : ℕ → ℕ → ℕ → EReal) (hw : ∀ b p q, Fin' (w b p q))
    (hD : ∀ (d : Fin 15) p q, wgt (D (ix3 d (wrap p) (wrap q))) (at2 tau p q) (at2 dmin p q) (at2 invz p q) = w d.val p q)
    (e : Fin 3) (I J : Fin 160) (hI : 16 ≤ I.val ∧ I.val < 146) (hJ : 16 ≤ J.val ∧ J.val < 146) :
    step i x tau dmin invz (slabD D) bd prev (ix3 e I J) = prev (ix3 e I J)
      + ∑ b ∈ Finset.range 15, cover (w b) I.val J.val * atC x e (I.val + (i 0).val + 153) (J.val + b + 153) := by
  have hW : ∀ d : Fin 15, at2 (weight (shapeCast S160x160 (slabD D d) shapeCasts_S1x160x160_S160x160) tau dmin invz) = w d.val :=
    fun d => funext fun p => funext fun q => by rw [at2_weight, slabD_val, hD]
  have hT := acc_val (term (k0_pay3 i x) tau dmin invz (slabD D) bd) (ix3 e I J)
    (fun b => cover (w b) I.val J.val * atC x e (I.val + (i 0).val + 153) (J.val + b + 153))
    (fun d => by
      rw [term_val _ _ _ _ _ _ hb d (by rw [hW]; exact hw d.val) e I J hI hJ, hW, atC_pay3]) 15 (le_refl 15)
  rw [← hT]
  unfold step
  rw [shapeCast_self]
  rfl

/-- The number of covering rows or columns, as the body's words compute it. -/
theorem cnt_word : ∀ I : Fin 160, 16 ≤ I.val ∧ I.val < 146 →
    IntOp.maxsi 1#32 (IntOp.addi (IntOp.subi (IntOp.minsi (IntOp.addi (IntOp.subi (BitVec.ofNat 32 I.val) 16#32) 5#32) 129#32)
      (IntOp.maxsi (IntOp.subi (IntOp.subi (BitVec.ofNat 32 I.val) 16#32) 4#32) 0#32)) 1#32) = BitVec.ofNat 32 (cntN I.val) := by
  decide +kernel

theorem cntN_le (I : ℕ) : cntN I ≤ 10 := (Finset.card_filter_le _ _).trans (by rw [Finset.card_range])

theorem cnt_mul (a b : ℕ) (ha : a ≤ 10) (hb : b ≤ 10) :
    (FloatOps.sitofp .f32 (IntOp.muli (BitVec.ofNat 32 a) (BitVec.ofNat 32 b)) : Ideal .f32) = ((a * b : ℕ) : EReal) := by
  have h : ∀ a b : Fin 11, (IntOp.muli (BitVec.ofNat 32 a.val) (BitVec.ofNat 32 b.val)).toInt = ((a.val * b.val : ℕ) : ℤ) := by decide +kernel
  show (((IntOp.muli (BitVec.ofNat 32 a) (BitVec.ofNat 32 b)).toInt : ℝ) : EReal) = _
  rw [h ⟨a, by omega⟩ ⟨b, by omega⟩]
  push_cast
  rfl

/-- The last point divides by the number of covering patches and takes the image away. -/
theorem final_val (v x : FVec Ideal S3x160x160 .f32) (e : Fin 3) (I J : Fin 160)
    (hI : 16 ≤ I.val ∧ I.val < 146) (hJ : 16 ≤ J.val ∧ J.val < 146) :
    k0_pay1 (F := Ideal) (k0_pay2 v) x (ix3 e I J)
      = Ideal.div (v (ix3 e I J)) ((cntN I.val * cntN J.val : ℕ) : EReal) - x (ix3 e I J) := by
  rw [← cnt_mul _ _ (cntN_le _) (cntN_le _), ← cnt_word I hI, ← cnt_word J hJ]
  unfold k0_pay1 k0_pay2
  pointwise

end Cert.Agg
end
-- ==== Proof.AggPoints.lean ====
/- What the aggregation kernel's output holds after each grid point, and the whole result, in closed form over the embedded
   image, the distances and the planes. -/
module

public import proofs.«01_k».proof.Proof.AggValue
public import proofs.«01_k».proof.Proof.Dist
public import Idealize.ShloMosaic.Adequacy
public import Idealize.ShloMosaic.Init
public import Idealize.ShloMosaic.Lib.Pipeline.ValueKit
public import Idealize.ShloMosaic.Lib.Claim

@[expose] public section
set_option maxRecDepth 16384
noncomputable section
namespace Cert.Agg
open Cert.Kernel2Ideal Cert.Kernel2Ideal.Gen Cert.Dist Idealize.ShloMosaic Idealize.ShloMosaic.TcCoe Idealize.SL.Sem

section Generic
variable {F : FTy → Type} [FloatOps F]

theorem zeros3 : (![0, 0, 0] : Fin 3 → ℕ) = fun _ => 0 := funext Cert.Dist.vec0

theorem canon_whole (v : FVec F S3x160x160 .f32) (L : List (View.Piece (Elt F) S3x160x160 .f32)) : View.canon (whole v :: L) = v :=
  View.canon_cons_unit_zero (S := S3x160x160) (e := .f32) (Val := Elt F) zeros3 inb_S3x160x160_S3x160x160_0_0_0 v L

theorem rdCov_whole (a : Memref sig .tc .vmem S3x160x160 .f32) (v : FVec F S3x160x160 .f32) : rdCov a [whole v] = v :=
  View.readCov_unit_zero (S := S3x160x160) (e := .f32) (Val := Elt F) a.view zeros3 inb_S3x160x160_S3x160x160_0_0_0 v

theorem idx_zero {s : Shape} (h : ∀ a, (fun _ : Fin s.rank => 0) a + s.size a ≤ s.size a) (j : s.Idx) :
    (Rect.unit (s := s) (fun _ => 0) s.size h).toLoadRect.idx j = j :=
  funext fun a => Fin.ext (by show 0 + 1 * (j a).val = (j a).val; omega)

/-- A load of a whole memref reads its contents. -/
theorem read_all {s : Shape} {e : EltTy} (a : Memref sig .tc .vmem s e) (ha : a.IsWhole) (x : s.Idx → Elt F e)
    (off : Fin s.rank → ℕ) (ho : off = fun _ => 0) (h : ∀ a, off a + s.size a ≤ s.size a) :
    View.readAt (Elt F) a.view (Rect.unit (s := s) off s.size h).toLoadRect (ha.unread x) = x := by
  subst ho
  funext j
  rw [View.readAt_apply, idx_zero]
  exact congrFun (ha.read_unread x) j

theorem vec2 (a : Fin 2) : (![0, 0] : Fin 2 → ℕ) a = 0 := by
  match a with
  | ⟨0, _⟩ => rfl
  | ⟨1, _⟩ => rfl

theorem rd3_eq (a : Memref sig .tc .vmem S3x160x160 .f32) (ha : a.IsWhole) (x : Vec F S3x160x160 .f32) : rd3 a ha x = x :=
  read_all a ha x _ zeros3 _

theorem rd2_eq {e : EltTy} (a : Memref sig .tc .vmem S160x160 e) (ha : a.IsWhole) (x : Vec F S160x160 e) : rd2 a ha x = x :=
  read_all a ha x _ (funext vec2) _

variable (c : Dev nD) (i : grid0.Coords) (arg1 : Memref sig .tc .vmem S15x160x160 .f32) (harg1 : arg1.IsWhole) (arg2 : Memref sig .tc .vmem S3x160x160 .f32) (harg2 : arg2.IsWhole) (arg3 : Memref sig .tc .vmem S160x160 .bf16) (harg3 : arg3.IsWhole) (arg4 : Memref sig .tc .vmem S160x160 .f32) (harg4 : arg4.IsWhole) (arg5 : Memref sig .tc .vmem S160x160 .f32) (harg5 : arg5.IsWhole) (arg6 : Memref sig .tc .vmem S160x160 .f32) (harg6 : arg6.IsWhole) (arg7 : Memref sig .tc .vmem S3x160x160 .f32) (harg7 : arg7.IsWhole)
    (x0 : Vec F S15x160x160 .f32) (x1 : Vec F S3x160x160 .f32) (x2 : Vec F S160x160 .bf16) (x3 : Vec F S160x160 .f32) (x4 : Vec F S160x160 .f32) (x5 : Vec F S160x160 .f32) (xo6 : Vec F S3x160x160 .f32)

theorem stepRd_eq (prev : Vec F S3x160x160 .f32) :
    stepRd i arg1 harg1 arg2 harg2 arg3 harg3 arg4 harg4 arg5 harg5 arg6 harg6 x0 x1 x2 x3 x4 x5 prev
      = step i x1 x3 x4 x5 (slabD x0) x2 prev := by
  have hs : ∀ d : Fin 15, View.readAt (Elt F) arg1.view (Rect.unit (s := S15x160x160) ![d.val, 0, 0] S1x160x160.size (inb3 d)).toLoadRect (harg1.unread x0) = slabD x0 d := fun d => by
    funext j
    rw [View.readAt_apply]
    exact congrFun (harg1.read_unread x0) _
  unfold stepRd
  rw [funext hs, rd3_eq, rd2_eq, rd2_eq, rd2_eq, rd2_eq]

theorem outA (hc0 : cond0_0 i) (hc1 : ¬cond0_1 i) :
    out0_A_6 c i arg1 harg1 arg2 harg2 arg3 harg3 arg4 harg4 arg5 harg5 arg6 harg6 arg7 harg7 hc0 hc1 x0 x1 x2 x3 x4 x5
      = step i x1 x3 x4 x5 (slabD x0) x2 k0_pay37 := by
  unfold out0_A_6
  rw [piecesA, rdCov_whole, stepRd_eq]
  generalize step i x1 x3 x4 x5 (slabD x0) x2 k0_pay37 = v
  exact (funext fun y => View.read_writes_junk_apply_eq_canon _ y _).trans (canon_whole v _)

theorem outB (hc0 : ¬cond0_0 i) (hc1 : ¬cond0_1 i) :
    out0_B_6 c i arg1 harg1 arg2 harg2 arg3 harg3 arg4 harg4 arg5 harg5 arg6 harg6 arg7 harg7 hc0 hc1 x0 x1 x2 x3 x4 x5 xo6
      = step i x1 x3 x4 x5 (slabD x0) x2 xo6 := by
  unfold out0_B_6
  rw [piecesB, rd3_eq, stepRd_eq]
  generalize step i x1 x3 x4 x5 (slabD x0) x2 xo6 = v
  exact (funext fun y => View.read_writes_junk_apply_eq_canon _ y _).trans (canon_whole v _)

theorem outC (hc0 : ¬cond0_0 i) (hc1 : cond0_1 i) :
    out0_C_6 c i arg1 harg1 arg2 harg2 arg3 harg3 arg4 harg4 arg5 harg5 arg6 harg6 arg7 harg7 hc0 hc1 x0 x1 x2 x3 x4 x5 xo6
      = k0_pay1 (k0_pay2 (step i x1 x3 x4 x5 (slabD x0) x2 xo6)) x1 := by
  unfold out0_C_6
  rw [piecesC, rd3_eq arg7, stepRd_eq]
  generalize step i x1 x3 x4 x5 (slabD x0) x2 xo6 = v
  rw [rdCov_whole, rd3_eq]
  generalize k0_pay1 (k0_pay2 v) x1 = u
  exact (funext fun y => View.read_writes_junk_apply_eq_canon _ y _).trans (canon_whole u _)

end Generic

section Sweep
variable {F : FTy → Type} [FloatOps F] (m : (ℓ : Loc nD τ sig) → Buf (Elt F) ℓ)

theorem index0 : ∀ t : Fin cfg0.N, win0_0.index t = ![t.val, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem coords0 : ∀ t : Fin cfg0.N, ((grid0.coords t) 0).val = t.val := (by decide +kernel : ∀ t : Fin grid0.N, _)

/-- The image on entry, padded. -/
def entX (c : Dev nD) : FVec F S3x160x160 .f32 := V m c main_v1
/-- The distances on entry. -/
def entD (c : Dev nD) : FVec F S225x160x160 .f32 := m ((c : Thread nD τ).loc main_arg1)
/-- The band matrix on entry. -/
def entB (c : Dev nD) : FVec F S160x160 .bf16 := V m c main_v12
/-- The thresholds on entry. -/
def entT (c : Dev nD) : FVec F S160x160 .f32 := m ((c : Thread nD τ).loc main_arg2)
/-- The minima on entry. -/
def entN (c : Dev nD) : FVec F S160x160 .f32 := m ((c : Thread nD τ).loc main_arg3)
/-- The inverse normalizers on entry. -/
def entZ (c : Dev nD) : FVec F S160x160 .f32 := m ((c : Thread nD τ).loc main_arg4)

/-- The distances of one vertical offset. -/
def rowsD (D : FVec F S225x160x160 .f32) (a : ℕ) : FVec F S15x160x160 .f32 :=
  fun j => D (ix3 ⟨(a * 15 + (j 0).val) % 225, Nat.mod_lt _ (by decide)⟩ (j 1) (j 2))

theorem iblk0 (c : Dev nD) (t : Fin cfg0.N) : iblk m c 0 t = rowsD (entD m c) t.val := by
  have ht : t.val < 15 := lt_of_lt_of_eq t.isLt N_0
  unfold entD
  rw [← V_main_arg1 m c]
  funext j
  have hj : (j 0).val < 15 := (j 0).isLt
  blk_simp [iblk]
  unfold rowsD
  refine congrArg (V m c main_arg1) (funext fun a => Fin.ext ?_)
  show win0_0.index t a * win0_0.size a + 1 * (j a).val = _
  rw [index0 t]
  match a with
  | ⟨0, _⟩ => show t.val * 15 + 1 * (j 0).val = (t.val * 15 + (j 0).val) % 225; omega
  | ⟨1, _⟩ => show 0 * 160 + 1 * (j 1).val = (j 1).val; omega
  | ⟨2, _⟩ => show 0 * 160 + 1 * (j 2).val = (j 2).val; omega
theorem iblk1 (c : Dev nD) (t : Fin cfg0.N) : iblk m c 1 t = entX m c := by
  funext j
  blk_simp [iblk]
  refine congrArg (V m c main_v1) (funext fun a => Fin.ext ?_)
  show win0_1.index t a * win0_1.size a + 1 * (j a).val = (j a).val
  rw [index1 t, Cert.Dist.vec0, Nat.zero_mul, Nat.zero_add, Nat.one_mul]
theorem iblk2 (c : Dev nD) (t : Fin cfg0.N) : iblk m c 2 t = entB m c := by
  funext j
  blk_simp [iblk]
  refine congrArg (V m c main_v12) (funext fun a => Fin.ext ?_)
  show win0_2.index t a * win0_2.size a + 1 * (j a).val = (j a).val
  rw [index2 t, vec2, Nat.zero_mul, Nat.zero_add, Nat.one_mul]
theorem iblk3 (c : Dev nD) (t : Fin cfg0.N) : iblk m c 3 t = entT m c := by
  unfold entT
  rw [← V_main_arg2 m c]
  funext j
  blk_simp [iblk]
  refine congrArg (V m c main_arg2) (funext fun a => Fin.ext ?_)
  show win0_3.index t a * win0_3.size a + 1 * (j a).val = (j a).val
  rw [index3 t, vec2, Nat.zero_mul, Nat.zero_add, Nat.one_mul]
theorem iblk4 (c : Dev nD) (t : Fin cfg0.N) : iblk m c 4 t = entN m c := by
  unfold entN
  rw [← V_main_arg3 m c]
  funext j
  blk_simp [iblk]
  refine congrArg (V m c main_arg3) (funext fun a => Fin.ext ?_)
  show win0_4.index t a * win0_4.size a + 1 * (j a).val = (j a).val
  rw [index4 t, vec2, Nat.zero_mul, Nat.zero_add, Nat.one_mul]
theorem iblk5 (c : Dev nD) (t : Fin cfg0.N) : iblk m c 5 t = entZ m c := by
  unfold entZ
  rw [← V_main_arg4 m c]
  funext j
  blk_simp [iblk]
  refine congrArg (V m c main_arg4) (funext fun a => Fin.ext ?_)
  show win0_5.index t a * win0_5.size a + 1 * (j a).val = (j a).val
  rw [index5 t, vec2, Nat.zero_mul, Nat.zero_add, Nat.one_mul]

/-- The step of grid point `t`. -/
abbrev stepAt (c : Dev nD) (t : Fin cfg0.N) (prev : FVec F S3x160x160 .f32) : FVec F S3x160x160 .f32 :=
  step (grid0.coords t) (entX m c) (entT m c) (entN m c) (entZ m c) (slabD (rowsD (entD m c) t.val)) (entB m c) prev

theorem outs_first (c : Dev nD) (hn : 0 < cfg0.N) : outsAt0 m c 0 hn = stepAt m c ⟨0, hn⟩ k0_pay37 := by
  refine (outsAt0_A m c ⟨0, hn⟩ (Nat.zero_mod _) (by show ¬ 0 % 15 = 14; decide)).trans ?_
  rw [outA, iblk0, iblk1, iblk2, iblk3, iblk4, iblk5]

theorem outs_mid (c : Dev nD) (n : ℕ) (hn : n + 1 < cfg0.N) (h : n + 1 < 14) :
    outsAt0 m c (n + 1) hn = stepAt m c ⟨n + 1, hn⟩ (outsAt0 m c n (Nat.lt_of_succ_lt hn)) := by
  refine (outsAt0_B m c ⟨n + 1, hn⟩ (by show ¬ (n + 1) % 15 = 0; omega) (by show ¬ (n + 1) % 15 = 14; omega)).trans ?_
  rw [outB, iblk0, iblk1, iblk2, iblk3, iblk4, iblk5]
  rfl

theorem outs_last (c : Dev nD) (hn : 14 < cfg0.N) :
    outsAt0 m c 14 hn = k0_pay1 (k0_pay2 (stepAt m c ⟨14, hn⟩ (outsAt0 m c 13 (Nat.lt_of_succ_lt hn)))) (entX m c) := by
  refine (outsAt0_C m c ⟨14, hn⟩ (by show ¬ 14 % 15 = 0; decide) (by show 14 % 15 = 14; decide)).trans ?_
  rw [outC, iblk0, iblk1, iblk2, iblk3, iblk4, iblk5]
  rfl

theorem lt14 : 14 < cfg0.N := by rw [show cfg0.N = 15 from N_0]; decide

/-- The result is what the last grid point left. -/
theorem final_eq (c : Dev nD) : (dats m 0 c).arrAt 6 cfg0.N = outsAt0 m c 14 lt14 := by
  funext i
  refine ((dats m 0 c).arrAt_emb_eq_after_last 6 ⟨14, lt14⟩ (by decide +kernel) i).trans ?_
  rw [after0_6]
  generalize outsAt0 m c _ _ = v
  rfl

end Sweep

section Ideal
variable (m : (ℓ : Loc nD τ sig) → Buf (Elt Ideal) ℓ)

/-- An image of three channels embedded in the canvas: its pixels start at (17, 17), with zeros around them. -/
def embC (x : FVec Ideal S1x3x128x128 .f32) (e : Fin 3) (I J : ℕ) : EReal :=
  if h : (17 ≤ I ∧ I < 145) ∧ (17 ≤ J ∧ J < 145) then x (ix4 0 e ⟨I - 17, by omega⟩ ⟨J - 17, by omega⟩) else 0

theorem embC_fin (x : FVec Ideal S1x3x128x128 .f32) (hx : ∀ i, Fin' (x i)) (e : Fin 3) (I J : ℕ) : Fin' (embC x e I J) := by
  unfold embC
  split
  · exact hx _
  · exact Fin'.zero

theorem padC_val (x : FVec Ideal S1x3x128x128 .f32) (e : Fin 3) (I J : Fin 160) :
    pad S3x160x160 ![0, 17, 17] ![0, 15, 15] ![0, 0, 0] (shapeCast S3x128x128 x shapeCasts_S1x3x128x128_S3x128x128)
      (sitofp .f32 (constantI S_ 32 0#32)) pads_S3x128x128_S3x160x160_000_17150_17150 h_S_ (ix3 e I J)
      = embC x e I.val J.val := by
  have hz := zero_pad
  generalize (sitofp .f32 (constantI S_ 32 0#32) : FVec Ideal S_ .f32) = v at hz ⊢
  pointwise
  rw [hz]
  unfold embC
  by_cases h : (17 ≤ I.val ∧ I.val - 17 < 128) ∧ 17 ≤ J.val ∧ J.val - 17 < 128
  · rw [dif_pos h, dif_pos (by omega)]
  · rw [dif_neg h, dif_neg (by omega)]

theorem entX_eq (c : Dev nD) (e : Fin 3) (I J : Fin 160) : entX m c (ix3 e I J)
    = embC (m ((c : Thread nD τ).loc main_arg0)) e I.val J.val := by
  unfold entX
  entry_read
  exact padC_val _ _ _ _

/-- The band matrix, as the host builds it. -/
def bandHost : FVec Ideal S160x160 .bf16 :=
  truncf .bf16 (uitofp .f32 (andi
    (cmpi .sge (subi (iotaInDim S160x160 32 0) (iotaInDim S160x160 32 1)) (broadcastInDim S160x160 ![] bcast_S_S160x160 (constantI S_ 32 4294967292#32)))
    (cmpi .sle (subi (iotaInDim S160x160 32 0) (iotaInDim S160x160 32 1)) (broadcastInDim S160x160 ![] bcast_S_S160x160 (constantI S_ 32 5#32)))))
    bitsLt_bf16_f32

theorem entB_eq (c : Dev nD) : entB m c = bandHost := by
  unfold entB
  entry_read
  rfl

theorem shift_word (k J : Fin 160) : BitVec.ofNat 32 k.val - BitVec.ofNat 32 J.val = BitVec.ofNat 32 (k.val + 160 - J.val) - 160#32 := by
  have hk := k.isLt
  have hJ := J.isLt
  apply BitVec.eq_of_toNat_eq
  simp only [BitVec.toNat_sub, BitVec.toNat_ofNat]
  omega

theorem band_word : ∀ s : Fin 320,
    IntOp.andi (IntOp.cmpi .sge (BitVec.ofNat 32 s.val - 160#32) 4294967292#32)
      (IntOp.cmpi .sle (BitVec.ofNat 32 s.val - 160#32) 5#32)
      = if 156 ≤ s.val ∧ s.val ≤ 165 then 1#1 else 0#1 := by decide +kernel

theorem bandHost_val : IsBand bandHost := by
  intro k J
  have hk := k.isLt
  have hJ := J.isLt
  pointwise [bandHost]
  have h := band_word ⟨k.val + 160 - J.val, by omega⟩
  rw [← shift_word] at h
  refine (congrArg (fun w => (FloatOps.uitofp .f32 w : Ideal .f32)) h).trans ?_
  show (FloatOps.uitofp .f32 (if 156 ≤ k.val + 160 - J.val ∧ k.val + 160 - J.val ≤ 165 then 1#1 else 0#1) : Ideal .f32) = _
  have h1 : (FloatOps.uitofp .f32 1#1 : Ideal .f32) = (1 : EReal) := by
    show (((1#1).toNat : ℝ) : EReal) = 1
    simp
  have h0 : (FloatOps.uitofp .f32 0#1 : Ideal .f32) = (0 : EReal) := by
    show (((0#1).toNat : ℝ) : EReal) = 0
    simp
  by_cases hc : J.val ≤ k.val + 4 ∧ k.val ≤ J.val + 5
  · rw [if_pos hc, if_pos (by omega), h1]
  · rw [if_neg hc, if_neg (by omega), h0]

/-- The weight of the neighbour at offset `(a - 7, b - 7)` of a pixel, from the arrays of distances, thresholds, minima and
    inverse normalizers. -/
def wOf (D : FVec Ideal S225x160x160 .f32) (T N Z : FVec Ideal S160x160 .f32) (a b p q : ℕ) : EReal :=
  wgt (D (ix3 ⟨(a * 15 + b) % 225, Nat.mod_lt _ (by decide)⟩ (wrap p) (wrap q))) (at2 T p q) (at2 N p q) (at2 Z p q)

theorem wOf_fin (D : FVec Ideal S225x160x160 .f32) (T N Z : FVec Ideal S160x160 .f32) (hD : ∀ i, Fin' (D i)) (hN : ∀ i, Fin' (N i))
    (hZ : ∀ i, Fin' (Z i)) (a b p q : ℕ) : Fin' (wOf D T N Z a b p q) := wgt_fin (hD _) (hN _) (hZ _)

section Sums
variable (c : Dev nD) (hD : ∀ i, Fin' (entD m c i)) (hN : ∀ i, Fin' (entN m c i)) (hZ : ∀ i, Fin' (entZ m c i))
  (e : Fin 3) (I J : Fin 160) (hI : 16 ≤ I.val ∧ I.val < 146) (hJ : 16 ≤ J.val ∧ J.val < 146)

/-- What vertical offset `a` adds at a pixel. -/
def addend (a : ℕ) : EReal :=
  ∑ b ∈ Finset.range 15, cover (wOf (entD m c) (entT m c) (entN m c) (entZ m c) a b) I.val J.val
    * embC (m ((c : Thread nD τ).loc main_arg0)) e (I.val + a - 7) (J.val + b - 7)

include hD hN hZ hI hJ

theorem stepAt_val (t : Fin cfg0.N) (prev : FVec Ideal S3x160x160 .f32) :
    stepAt m c t prev (ix3 e I J) = prev (ix3 e I J) + addend m c e I J t.val := by
  have ht : t.val < 15 := lt_of_lt_of_eq t.isLt N_0
  refine (step_val (grid0.coords t) (entX m c) (entT m c) (entN m c) (entZ m c) (rowsD (entD m c) t.val) (entB m c)
    (by rw [entB_eq]; exact bandHost_val) prev (wOf (entD m c) (entT m c) (entN m c) (entZ m c) t.val)
    (fun b p q => wOf_fin _ _ _ _ hD hN hZ _ _ _ _) (fun d p q => rfl) e I J hI hJ).trans ?_
  refine congrArg (fun s : EReal => prev (ix3 e I J) + s) (Finset.sum_congr rfl fun b hb => ?_)
  rw [Finset.mem_range] at hb
  refine congrArg (fun s : EReal => _ * s) ?_
  unfold atC
  rw [entX_eq, coords0]
  refine congrArg₂ (embC _ e) ?_ ?_
  · show (I.val + t.val + 153) % 160 = _; omega
  · show (J.val + b + 153) % 160 = _; omega

theorem outs_sum : ∀ (n : ℕ) (hn : n < cfg0.N), n < 14 →
    outsAt0 m c n hn (ix3 e I J) = ∑ a ∈ Finset.range (n + 1), addend m c e I J a := by
  intro n
  induction n with
  | zero =>
    intro hn _
    rw [outs_first, stepAt_val m c hD hN hZ e I J hI hJ, Finset.sum_range_one]
    show (Ideal.ofBits .f32 0x00000000#32 : EReal) + _ = _
    rw [Ideal.ofBits_zero_f32, zero_add]
  | succ n ih =>
    intro hn h
    rw [outs_mid m c n hn h, stepAt_val m c hD hN hZ e I J hI hJ, ih _ (Nat.lt_of_succ_lt h), Finset.sum_range_succ _ (n + 1)]

/-- The kernel's result at a pixel of the image. -/
theorem kernel_val : (dats m 0 c).arrAt 6 cfg0.N (ix3 e I J)
    = Ideal.div (gathered (wOf (entD m c) (entT m c) (entN m c) (entZ m c)) (embC (m ((c : Thread nD τ).loc main_arg0)) e) I.val J.val)
        ((cntN I.val * cntN J.val : ℕ) : EReal) - embC (m ((c : Thread nD τ).loc main_arg0)) e I.val J.val := by
  rw [final_eq, outs_last, final_val _ _ _ _ _ hI hJ, stepAt_val m c hD hN hZ e I J hI hJ,
    outs_sum m c hD hN hZ e I J hI hJ 13 _ (by decide), ← Finset.sum_range_succ, entX_eq]
  rfl

end Sums

end Ideal

end Cert.Agg
end
-- ==== Proof.AggRef.lean ====
/- The patches and weights that the plain aggregation program forms, and their sums, in closed form over the embedded image. -/
module

public import proofs.«01_k».proof.Proof.AggPoints
public import proofs.«01_k».proof.Proof.Ref
public import proofs.«01_k».proof.Proof.Gen.Reference2Ideal.Run

@[expose] public section
set_option maxRecDepth 16384
noncomputable section
namespace Cert.Agg.Ref
open Cert.Reference2Ideal Cert.Reference2Ideal.Gen Cert.Reference2Ideal.Value Cert.Dist Idealize.ShloMosaic Idealize.ShloMosaic.TcCoe Idealize.SL.Sem

variable (V : Valuation τ sig (Elt Ideal))

/-- The image, as an array. -/
abbrev argX : FVec Ideal S1x3x128x128 .f32 := V (Proc.devRef .tc main_arg0)
/-- The distances, as an array. -/
abbrev argD : FVec Ideal S225x160x160 .f32 := V (Proc.devRef .tc main_arg1)
/-- The thresholds, as an array. -/
abbrev argT : FVec Ideal S160x160 .f32 := V (Proc.devRef .tc main_arg2)
/-- The minima, as an array. -/
abbrev argN : FVec Ideal S160x160 .f32 := V (Proc.devRef .tc main_arg3)
/-- The inverse normalizers, as an array. -/
abbrev argZ : FVec Ideal S160x160 .f32 := V (Proc.devRef .tc main_arg4)

theorem zero_word : (sitofp .f32 (constantI S_ 32 0#32) : FVec Ideal S_ .f32) (Shape.Idx.first h_S_) = 0 := by
  show (((0#32).toInt : ℝ) : EReal) = 0
  have h0 : (0#32).toInt = 0 := by decide
  rw [h0]
  simp

theorem embC_zero (x : FVec Ideal S1x3x128x128 .f32) (e : Fin 3) (I J : ℕ) (h : ¬((17 ≤ I ∧ I < 145) ∧ (17 ≤ J ∧ J < 145))) :
    embC x e I J = 0 := dif_neg h

theorem pad1_val (x : FVec Ideal S1x3x128x128 .f32) (e : Fin 3) (i j : Fin 130) :
    pad S3x130x130 ![0, 1, 1] ![0, 1, 1] ![0, 0, 0] (shapeCast S3x128x128 x shapeCasts_S1x3x128x128_S3x128x128)
      (sitofp .f32 (constantI S_ 32 0#32)) pads_S3x128x128_S3x130x130_000_110_110 h_S_ (ix3 e i j)
      = embC x e (i.val + 16) (j.val + 16) := by
  have hz := zero_word
  generalize (sitofp .f32 (constantI S_ 32 0#32) : FVec Ideal S_ .f32) = v at hz ⊢
  pointwise
  rw [hz]
  unfold embC
  by_cases h : (1 ≤ i.val ∧ i.val - 1 < 128) ∧ 1 ≤ j.val ∧ j.val - 1 < 128
  · rw [dif_pos h, dif_pos (by omega)]
    refine congrArg x ?_
    pointwise
    congr 1 <;> exact Fin.ext (by show _ = _; omega)
  · rw [dif_neg h, dif_neg (by omega)]

theorem v1_val (e : Fin 3) (i j : Fin 130) : res_main_v1 V (ix3 e i j) = embC (argX V) e (i.val + 16) (j.val + 16) :=
  pad1_val _ _ _ _

/-- The image with its border. -/
theorem border_val (z : FVec Ideal S3x130x130 .f32) (x : FVec Ideal S1x3x128x128 .f32)
    (hz : ∀ (e : Fin 3) (i j : Fin 130), z (ix3 e i j) = embC x e (i.val + 16) (j.val + 16)) (e : Fin 3) (i j : Fin 153) :
    pad S3x153x153 ![0, 12, 12] ![0, 11, 11] ![0, 0, 0] z (sitofp .f32 (constantI S_ 32 0#32))
      pads_S3x130x130_S3x153x153_000_12110_12110 h_S_ (ix3 e i j) = embC x e (i.val + 4) (j.val + 4) := by
  have h0 := zero_word
  generalize (sitofp .f32 (constantI S_ 32 0#32) : FVec Ideal S_ .f32) = v at h0 ⊢
  pointwise
  rw [h0]
  by_cases h : (12 ≤ i.val ∧ i.val - 12 < 130) ∧ 12 ≤ j.val ∧ j.val - 12 < 130
  · rw [dif_pos h, hz]
    congr 1 <;> (show _ - 12 + 16 = _; omega)
  · rw [dif_neg h, embC_zero _ _ _ _ (by omega)]

theorem v18_val (e : Fin 3) (i j : Fin 153) : res_main_v18 V (ix3 e i j) = embC (argX V) e (i.val + 4) (j.val + 4) :=
  border_val _ _ (v1_val V) e i j

theorem v49_val (a : Fin 15) (e : Fin 3) (i : Fin 139) (j : Fin 153) :
    res_main_v49 V (ix4 a e i j) = embC (argX V) e (i.val + a.val + 4) (j.val + 4) := by
  unfold res_main_v49
  have h1 := v18_val V
  have ha := a.isLt
  obtain ⟨z, ez⟩ : ∃ z : FVec Ideal S3x153x153 .f32, res_main_v18 V = z := ⟨_, rfl⟩
  rw [ez] at h1 ⊢
  pointwise
  simp only [h1]
  exact Cert.Dist.Ref.pick (fun t => embC (argX V) e (t + 4) (j.val + 4)) a.val i.val ha

theorem v80_val (a b : Fin 15) (e : Fin 3) (i j : Fin 139) :
    res_main_v80 V (ix5 a b e i j) = embC (argX V) e (i.val + a.val + 4) (j.val + b.val + 4) := by
  unfold res_main_v80
  have h1 := v49_val V
  have hb := b.isLt
  obtain ⟨z, ez⟩ : ∃ z : FVec Ideal S15x3x139x153 .f32, res_main_v49 V = z := ⟨_, rfl⟩
  rw [ez] at h1 ⊢
  pointwise
  simp only [h1]
  exact Cert.Dist.Ref.pick (fun t => embC (argX V) e (i.val + a.val + 4) (t + 4)) b.val j.val hb

/-- The piece, of ten, that an offset names. -/
theorem pick10 (f : ℕ → EReal) (a i : ℕ) (ha : a < 10) :
    (if _h : a < 1 then f i else (if _h : a - 1 < 1 then f (1 + i) else (if _h : a - 1 - 1 < 1 then f (2 + i) else (if _h : a - 1 - 1 - 1 < 1 then f (3 + i) else (if _h : a - 1 - 1 - 1 - 1 < 1 then f (4 + i) else (if _h : a - 1 - 1 - 1 - 1 - 1 < 1 then f (5 + i) else (if _h : a - 1 - 1 - 1 - 1 - 1 - 1 < 1 then f (6 + i) else (if _h : a - 1 - 1 - 1 - 1 - 1 - 1 - 1 < 1 then f (7 + i) else (if _h : a - 1 - 1 - 1 - 1 - 1 - 1 - 1 - 1 < 1 then f (8 + i) else f (9 + i)))))))))) = f (i + a) := by
  interval_cases a <;> simp [Nat.add_comm]

theorem v101_val (r : Fin 10) (a b : Fin 15) (e : Fin 3) (p : Fin 130) (j : Fin 139) :
    res_main_v101 V (ix6 r a b e p j) = embC (argX V) e (p.val + r.val + a.val + 4) (j.val + b.val + 4) := by
  unfold res_main_v101
  have h1 := v80_val V
  have hr := r.isLt
  obtain ⟨z, ez⟩ : ∃ z : FVec Ideal S15x15x3x139x139 .f32, res_main_v80 V = z := ⟨_, rfl⟩
  rw [ez] at h1 ⊢
  pointwise
  simp only [h1]
  exact pick10 (fun t => embC (argX V) e (t + a.val + 4) (j.val + b.val + 4)) r.val p.val hr

/-- The patches, stacked. -/
def patches (z : FVec Ideal S10x15x15x3x130x139 .f32) : FVec Ideal S10x10x15x15x3x130x130 .f32 :=
  concatenate S10x10x15x15x3x130x130 1 [⟨S10x1x15x15x3x130x130, (broadcastInDim S10x1x15x15x3x130x130 ![0, 2, 3, 4, 5, 6] bcast_S10x15x15x3x130x130_S10x1x15x15x3x130x130_0_2_3_4_5_6 (extractStridedSlice S10x15x15x3x130x130 ![0, 0, 0, 0, 0, 0] z slices_S10x15x15x3x130x139_S10x15x15x3x130x130_0_0_0_0_0_0))⟩, ⟨S10x1x15x15x3x130x130, (broadcastInDim S10x1x15x15x3x130x130 ![0, 2, 3, 4, 5, 6] bcast_S10x15x15x3x130x130_S10x1x15x15x3x130x130_0_2_3_4_5_6 (extractStridedSlice S10x15x15x3x130x130 ![0, 0, 0, 0, 0, 1] z slices_S10x15x15x3x130x139_S10x15x15x3x130x130_0_0_0_0_0_1))⟩, ⟨S10x1x15x15x3x130x130, (broadcastInDim S10x1x15x15x3x130x130 ![0, 2, 3, 4, 5, 6] bcast_S10x15x15x3x130x130_S10x1x15x15x3x130x130_0_2_3_4_5_6 (extractStridedSlice S10x15x15x3x130x130 ![0, 0, 0, 0, 0, 2] z slices_S10x15x15x3x130x139_S10x15x15x3x130x130_0_0_0_0_0_2))⟩, ⟨S10x1x15x15x3x130x130, (broadcastInDim S10x1x15x15x3x130x130 ![0, 2, 3, 4, 5, 6] bcast_S10x15x15x3x130x130_S10x1x15x15x3x130x130_0_2_3_4_5_6 (extractStridedSlice S10x15x15x3x130x130 ![0, 0, 0, 0, 0, 3] z slices_S10x15x15x3x130x139_S10x15x15x3x130x130_0_0_0_0_0_3))⟩, ⟨S10x1x15x15x3x130x130, (broadcastInDim S10x1x15x15x3x130x130 ![0, 2, 3, 4, 5, 6] bcast_S10x15x15x3x130x130_S10x1x15x15x3x130x130_0_2_3_4_5_6 (extractStridedSlice S10x15x15x3x130x130 ![0, 0, 0, 0, 0, 4] z slices_S10x15x15x3x130x139_S10x15x15x3x130x130_0_0_0_0_0_4))⟩, ⟨S10x1x15x15x3x130x130, (broadcastInDim S10x1x15x15x3x130x130 ![0, 2, 3, 4, 5, 6] bcast_S10x15x15x3x130x130_S10x1x15x15x3x130x130_0_2_3_4_5_6 (extractStridedSlice S10x15x15x3x130x130 ![0, 0, 0, 0, 0, 5] z slices_S10x15x15x3x130x139_S10x15x15x3x130x130_0_0_0_0_0_5))⟩, ⟨S10x1x15x15x3x130x130, (broadcastInDim S10x1x15x15x3x130x130 ![0, 2, 3, 4, 5, 6] bcast_S10x15x15x3x130x130_S10x1x15x15x3x130x130_0_2_3_4_5_6 (extractStridedSlice S10x15x15x3x130x130 ![0, 0, 0, 0, 0, 6] z slices_S10x15x15x3x130x139_S10x15x15x3x130x130_0_0_0_0_0_6))⟩, ⟨S10x1x15x15x3x130x130, (broadcastInDim S10x1x15x15x3x130x130 ![0, 2, 3, 4, 5, 6] bcast_S10x15x15x3x130x130_S10x1x15x15x3x130x130_0_2_3_4_5_6 (extractStridedSlice S10x15x15x3x130x130 ![0, 0, 0, 0, 0, 7] z slices_S10x15x15x3x130x139_S10x15x15x3x130x130_0_0_0_0_0_7))⟩, ⟨S10x1x15x15x3x130x130, (broadcastInDim S10x1x15x15x3x130x130 ![0, 2, 3, 4, 5, 6] bcast_S10x15x15x3x130x130_S10x1x15x15x3x130x130_0_2_3_4_5_6 (extractStridedSlice S10x15x15x3x130x130 ![0, 0, 0, 0, 0, 8] z slices_S10x15x15x3x130x139_S10x15x15x3x130x130_0_0_0_0_0_8))⟩, ⟨S10x1x15x15x3x130x130, (broadcastInDim S10x1x15x15x3x130x130 ![0, 2, 3, 4, 5, 6] bcast_S10x15x15x3x130x130_S10x1x15x15x3x130x130_0_2_3_4_5_6 (extractStridedSlice S10x15x15x3x130x130 ![0, 0, 0, 0, 0, 9] z slices_S10x15x15x3x130x139_S10x15x15x3x130x130_0_0_0_0_0_9))⟩]
    concatenates_S10x1x15x15x3x130x130_S10x1x15x15x3x130x130_S10x1x15x15x3x130x130_S10x1x15x15x3x130x130_S10x1x15x15x3x130x130_S10x1x15x15x3x130x130_S10x1x15x15x3x130x130_S10x1x15x15x3x130x130_S10x1x15x15x3x130x130_S10x1x15x15x3x130x130_S10x10x15x15x3x130x130_d1

theorem patches_val (z : FVec Ideal S10x15x15x3x130x139 .f32) (r c : Fin 10) (a b : Fin 15) (e : Fin 3) (p q : Fin 130) (f : ℕ → EReal)
    (hz : ∀ j : Fin 139, z (ix6 r a b e p j) = f j.val) : patches z (ix7 r c a b e p q) = f (q.val + c.val) := by
  have hc := c.isLt
  unfold patches
  pointwise
  simp only [hz]
  exact pick10 f c.val q.val hc

/-- The weights of the patches, per offset and pixel. -/
def weights (D : FVec Ideal S225x160x160 .f32) (T N Z : FVec Ideal S160x160 .f32) : FVec Ideal S10x10x15x15x3x130x130 .f32 :=
  broadcastInDim S10x10x15x15x3x130x130 ![0, 1, 2, 3, 4, 5, 6] bcast_S1x1x15x15x1x130x130_S10x10x15x15x3x130x130_0_1_2_3_4_5_6 (broadcastInDim S1x1x15x15x1x130x130 ![2, 3, 4, 5, 6] bcast_S15x15x1x130x130_S1x1x15x15x1x130x130_2_3_4_5_6 (broadcastInDim S15x15x1x130x130 ![0, 1, 3, 4] bcast_S15x15x130x130_S15x15x1x130x130_0_1_3_4 (shapeCast S15x15x130x130 (mulf (select (cmpf .ole (extractStridedSlice S225x130x130 ![0, 16, 16] D slices_S225x160x160_S225x130x130_0_16_16) (broadcastInDim S225x130x130 ![0, 1, 2] bcast_S1x130x130_S225x130x130_0_1_2 (broadcastInDim S1x130x130 ![1, 2] bcast_S130x130_S1x130x130_1_2 (extractStridedSlice S130x130 ![16, 16] T slices_S160x160_S130x130_16_16)))) (Host.exp (subf (broadcastInDim S225x130x130 ![0, 1, 2] bcast_S1x130x130_S225x130x130_0_1_2 (broadcastInDim S1x130x130 ![1, 2] bcast_S130x130_S1x130x130_1_2 (extractStridedSlice S130x130 ![16, 16] N slices_S160x160_S130x130_16_16))) (extractStridedSlice S225x130x130 ![0, 16, 16] D slices_S225x160x160_S225x130x130_0_16_16))) (broadcastInDim S225x130x130 ![] bcast_S_S225x130x130 (id (constant S_ .f32 0x00000000#32)))) (broadcastInDim S225x130x130 ![0, 1, 2] bcast_S1x130x130_S225x130x130_0_1_2 (broadcastInDim S1x130x130 ![1, 2] bcast_S130x130_S1x130x130_1_2 (extractStridedSlice S130x130 ![16, 16] Z slices_S160x160_S130x130_16_16)))) shapeCasts_S225x130x130_S15x15x130x130)))

theorem weights_val (D : FVec Ideal S225x160x160 .f32) (T N Z : FVec Ideal S160x160 .f32) (r c : Fin 10) (a b : Fin 15) (e : Fin 3) (p q : Fin 130) :
    weights D T N Z (ix7 r c a b e p q) = wOf D T N Z a.val b.val (p.val + 16) (q.val + 16) := by
  have ha := a.isLt
  have hb := b.isLt
  have hw : ∀ (i : Fin 130) (h : 16 + i.val < 160), (⟨16 + i.val, h⟩ : Fin 160) = wrap (i.val + 16) :=
    fun i h => Fin.ext (by show 16 + i.val = (i.val + 16) % 160; omega)
  have hd : ∀ h : a.val * 15 + b.val < 225, (⟨a.val * 15 + b.val, h⟩ : Fin 225) = ⟨(a.val * 15 + b.val) % 225, Nat.mod_lt _ (by decide)⟩ :=
    fun h => Fin.ext (by show a.val * 15 + b.val = (a.val * 15 + b.val) % 225; omega)
  have h0 : (id (constant S_ .f32 0x00000000#32 : FVec Ideal S_ .f32)) ix0 = 0 := Ideal.ofBits_zero_f32
  unfold weights
  pointwise
  rw [h0]
  simp only [hw, hd]
  unfold wOf wgt at2
  pointwise

theorem sum_ab (h : S10x10x15x15x3x130x130.ReducesTo [2, 3] S10x10x3x130x130) (v : S10x10x15x15x3x130x130.Idx → EReal) (init : EReal)
    (r c : Fin 10) (e : Fin 3) (p q : Fin 130) :
    Ideal.hostReduceAdd h v init (ix5 r c e p q) = init + ∑ a : Fin 15, ∑ b : Fin 15, v (ix7 r c a b e p q) := by
  refine congrArg (fun s : EReal => init + s) ?_
  have hf : ∀ i : S10x10x15x15x3x130x130.Idx, h.drop i = ix5 r c e p q ↔ ∃ k : Fin 15 × Fin 15, ix7 r c k.1 k.2 e p q = i := by
    intro i
    constructor
    · intro he
      refine ⟨(i 2, i 3), ?_⟩
      funext a; apply Fin.ext
      match a with
      | ⟨0, _⟩ => exact (congrArg Fin.val (congrFun he 0)).symm
      | ⟨1, _⟩ => exact (congrArg Fin.val (congrFun he 1)).symm
      | ⟨2, _⟩ => rfl
      | ⟨3, _⟩ => rfl
      | ⟨4, _⟩ => exact (congrArg Fin.val (congrFun he 2)).symm
      | ⟨5, _⟩ => exact (congrArg Fin.val (congrFun he 3)).symm
      | ⟨6, _⟩ => exact (congrArg Fin.val (congrFun he 4)).symm
    · rintro ⟨k, rfl⟩
      funext b
      apply Fin.ext
      match b with
      | ⟨0, _⟩ => rfl
      | ⟨1, _⟩ => rfl
      | ⟨2, _⟩ => rfl
      | ⟨3, _⟩ => rfl
      | ⟨4, _⟩ => rfl
  refine (Finset.sum_filter_eq_sum_of_fiber _ (fun k : Fin 15 × Fin 15 => ix7 r c k.1 k.2 e p q)
    (fun _ _ he => Prod.ext (congrFun he 2) (congrFun he 3)) hf v).trans ?_
  simp only [Fintype.sum_prod_type]

/-- The weighted sum of the neighbours of a pixel, entry `(r, c)` of their patches. -/
def entry (V : Valuation τ sig (Elt Ideal)) (e : Fin 3) (r c p q : ℕ) : EReal :=
  ∑ a ∈ Finset.range 15, ∑ b ∈ Finset.range 15,
    wOf (argD V) (argT V) (argN V) (argZ V) a b (p + 16) (q + 16) * embC (argX V) e (p + r + a + 4) (q + c + b + 4)

theorem v127_val (r c : Fin 10) (e : Fin 3) (p q : Fin 130) : res_main_v127 V (ix5 r c e p q) = entry V e r.val c.val p.val q.val := by
  have h1 := v101_val V
  unfold res_main_v127
  have hm : res_main_v126 V = mulf (weights (argD V) (argT V) (argN V) (argZ V)) (patches (res_main_v101 V)) := rfl
  rw [hm]
  obtain ⟨z, ez⟩ : ∃ z : FVec Ideal S10x15x15x3x130x139 .f32, res_main_v101 V = z := ⟨_, rfl⟩
  rw [ez] at h1 ⊢
  refine (sum_ab _ _ _ r c e p q).trans ?_
  have h0 : (constant S_ .f32 0x00000000#32 : FVec Ideal S_ .f32) (Shape.Idx.first h_S_) = 0 := Ideal.ofBits_zero_f32
  rw [h0, zero_add]
  unfold entry
  simp only [Finset.sum_range]
  refine Finset.sum_congr rfl fun a _ => Finset.sum_congr rfl fun b _ => ?_
  refine congrArg₂ (fun s t : EReal => s * t) (weights_val _ _ _ _ r c a b e p q) ?_
  exact patches_val z r c a b e p q (fun j => embC (argX V) e (p.val + r.val + a.val + 4) (j + b.val + 4)) fun j => h1 r a b e p j

end Cert.Agg.Ref
end
-- ==== Proof.AggPlace.lean ====
/- The overlapping patches added up where they lie: columns first, then rows. -/
module

public import proofs.«01_k».proof.Proof.AggRef

@[expose] public section
set_option maxRecDepth 16384
noncomputable section
namespace Cert.Agg.Ref
open Cert.Reference2Ideal Cert.Reference2Ideal.Gen Cert.Reference2Ideal.Value Cert.Dist Idealize.ShloMosaic Idealize.ShloMosaic.TcCoe Idealize.SL.Sem

/-- Columns of patches added where they lie. -/
def placeCols (z : FVec Ideal S10x10x3x130x130 .f32) : FVec Ideal S10x3x130x139 .f32 :=
  addf (addf (addf (addf (addf (addf (addf (addf (addf (addf (broadcastInDim S10x3x130x139 ![] bcast_S_S10x3x130x139 (constant S_ .f32 0x00000000#32)) (pad S10x3x130x139 ![0, 0, 0, 0] ![0, 0, 0, 9] ![0, 0, 0, 0] (shapeCast S10x3x130x130 (extractStridedSlice S10x1x3x130x130 ![0, 0, 0, 0, 0] z slices_S10x10x3x130x130_S10x1x3x130x130_0_0_0_0_0) shapeCasts_S10x1x3x130x130_S10x3x130x130) (sitofp .f32 (constantI S_ 32 0#32)) pads_S10x3x130x130_S10x3x130x139_000_000_000_090 h_S_)) (pad S10x3x130x139 ![0, 0, 0, 1] ![0, 0, 0, 8] ![0, 0, 0, 0] (shapeCast S10x3x130x130 (extractStridedSlice S10x1x3x130x130 ![0, 1, 0, 0, 0] z slices_S10x10x3x130x130_S10x1x3x130x130_0_1_0_0_0) shapeCasts_S10x1x3x130x130_S10x3x130x130) (sitofp .f32 (constantI S_ 32 0#32)) pads_S10x3x130x130_S10x3x130x139_000_000_000_180 h_S_)) (pad S10x3x130x139 ![0, 0, 0, 2] ![0, 0, 0, 7] ![0, 0, 0, 0] (shapeCast S10x3x130x130 (extractStridedSlice S10x1x3x130x130 ![0, 2, 0, 0, 0] z slices_S10x10x3x130x130_S10x1x3x130x130_0_2_0_0_0) shapeCasts_S10x1x3x130x130_S10x3x130x130) (sitofp .f32 (constantI S_ 32 0#32)) pads_S10x3x130x130_S10x3x130x139_000_000_000_270 h_S_)) (pad S10x3x130x139 ![0, 0, 0, 3] ![0, 0, 0, 6] ![0, 0, 0, 0] (shapeCast S10x3x130x130 (extractStridedSlice S10x1x3x130x130 ![0, 3, 0, 0, 0] z slices_S10x10x3x130x130_S10x1x3x130x130_0_3_0_0_0) shapeCasts_S10x1x3x130x130_S10x3x130x130) (sitofp .f32 (constantI S_ 32 0#32)) pads_S10x3x130x130_S10x3x130x139_000_000_000_360 h_S_)) (pad S10x3x130x139 ![0, 0, 0, 4] ![0, 0, 0, 5] ![0, 0, 0, 0] (shapeCast S10x3x130x130 (extractStridedSlice S10x1x3x130x130 ![0, 4, 0, 0, 0] z slices_S10x10x3x130x130_S10x1x3x130x130_0_4_0_0_0) shapeCasts_S10x1x3x130x130_S10x3x130x130) (sitofp .f32 (constantI S_ 32 0#32)) pads_S10x3x130x130_S10x3x130x139_000_000_000_450 h_S_)) (pad S10x3x130x139 ![0, 0, 0, 5] ![0, 0, 0, 4] ![0, 0, 0, 0] (shapeCast S10x3x130x130 (extractStridedSlice S10x1x3x130x130 ![0, 5, 0, 0, 0] z slices_S10x10x3x130x130_S10x1x3x130x130_0_5_0_0_0) shapeCasts_S10x1x3x130x130_S10x3x130x130) (sitofp .f32 (constantI S_ 32 0#32)) pads_S10x3x130x130_S10x3x130x139_000_000_000_540 h_S_)) (pad S10x3x130x139 ![0, 0, 0, 6] ![0, 0, 0, 3] ![0, 0, 0, 0] (shapeCast S10x3x130x130 (extractStridedSlice S10x1x3x130x130 ![0, 6, 0, 0, 0] z slices_S10x10x3x130x130_S10x1x3x130x130_0_6_0_0_0) shapeCasts_S10x1x3x130x130_S10x3x130x130) (sitofp .f32 (constantI S_ 32 0#32)) pads_S10x3x130x130_S10x3x130x139_000_000_000_630 h_S_)) (pad S10x3x130x139 ![0, 0, 0, 7] ![0, 0, 0, 2] ![0, 0, 0, 0] (shapeCast S10x3x130x130 (extractStridedSlice S10x1x3x130x130 ![0, 7, 0, 0, 0] z slices_S10x10x3x130x130_S10x1x3x130x130_0_7_0_0_0) shapeCasts_S10x1x3x130x130_S10x3x130x130) (sitofp .f32 (constantI S_ 32 0#32)) pads_S10x3x130x130_S10x3x130x139_000_000_000_720 h_S_)) (pad S10x3x130x139 ![0, 0, 0, 8] ![0, 0, 0, 1] ![0, 0, 0, 0] (shapeCast S10x3x130x130 (extractStridedSlice S10x1x3x130x130 ![0, 8, 0, 0, 0] z slices_S10x10x3x130x130_S10x1x3x130x130_0_8_0_0_0) shapeCasts_S10x1x3x130x130_S10x3x130x130) (sitofp .f32 (constantI S_ 32 0#32)) pads_S10x3x130x130_S10x3x130x139_000_000_000_810 h_S_)) (pad S10x3x130x139 ![0, 0, 0, 9] ![0, 0, 0, 0] ![0, 0, 0, 0] (shapeCast S10x3x130x130 (extractStridedSlice S10x1x3x130x130 ![0, 9, 0, 0, 0] z slices_S10x10x3x130x130_S10x1x3x130x130_0_9_0_0_0) shapeCasts_S10x1x3x130x130_S10x3x130x130) (sitofp .f32 (constantI S_ 32 0#32)) pads_S10x3x130x130_S10x3x130x139_000_000_000_900 h_S_)

/-- Rows of patches added where they lie. -/
def placeRows (z : FVec Ideal S10x3x130x139 .f32) : FVec Ideal S3x139x139 .f32 :=
  addf (addf (addf (addf (addf (addf (addf (addf (addf (addf (broadcastInDim S3x139x139 ![] bcast_S_S3x139x139 (constant S_ .f32 0x00000000#32)) (pad S3x139x139 ![0, 0, 0] ![0, 9, 0] ![0, 0, 0] (shapeCast S3x130x139 (extractStridedSlice S1x3x130x139 ![0, 0, 0, 0] z slices_S10x3x130x139_S1x3x130x139_0_0_0_0) shapeCasts_S1x3x130x139_S3x130x139) (sitofp .f32 (constantI S_ 32 0#32)) pads_S3x130x139_S3x139x139_000_090_000 h_S_)) (pad S3x139x139 ![0, 1, 0] ![0, 8, 0] ![0, 0, 0] (shapeCast S3x130x139 (extractStridedSlice S1x3x130x139 ![1, 0, 0, 0] z slices_S10x3x130x139_S1x3x130x139_1_0_0_0) shapeCasts_S1x3x130x139_S3x130x139) (sitofp .f32 (constantI S_ 32 0#32)) pads_S3x130x139_S3x139x139_000_180_000 h_S_)) (pad S3x139x139 ![0, 2, 0] ![0, 7, 0] ![0, 0, 0] (shapeCast S3x130x139 (extractStridedSlice S1x3x130x139 ![2, 0, 0, 0] z slices_S10x3x130x139_S1x3x130x139_2_0_0_0) shapeCasts_S1x3x130x139_S3x130x139) (sitofp .f32 (constantI S_ 32 0#32)) pads_S3x130x139_S3x139x139_000_270_000 h_S_)) (pad S3x139x139 ![0, 3, 0] ![0, 6, 0] ![0, 0, 0] (shapeCast S3x130x139 (extractStridedSlice S1x3x130x139 ![3, 0, 0, 0] z slices_S10x3x130x139_S1x3x130x139_3_0_0_0) shapeCasts_S1x3x130x139_S3x130x139) (sitofp .f32 (constantI S_ 32 0#32)) pads_S3x130x139_S3x139x139_000_360_000 h_S_)) (pad S3x139x139 ![0, 4, 0] ![0, 5, 0] ![0, 0, 0] (shapeCast S3x130x139 (extractStridedSlice S1x3x130x139 ![4, 0, 0, 0] z slices_S10x3x130x139_S1x3x130x139_4_0_0_0) shapeCasts_S1x3x130x139_S3x130x139) (sitofp .f32 (constantI S_ 32 0#32)) pads_S3x130x139_S3x139x139_000_450_000 h_S_)) (pad S3x139x139 ![0, 5, 0] ![0, 4, 0] ![0, 0, 0] (shapeCast S3x130x139 (extractStridedSlice S1x3x130x139 ![5, 0, 0, 0] z slices_S10x3x130x139_S1x3x130x139_5_0_0_0) shapeCasts_S1x3x130x139_S3x130x139) (sitofp .f32 (constantI S_ 32 0#32)) pads_S3x130x139_S3x139x139_000_540_000 h_S_)) (pad S3x139x139 ![0, 6, 0] ![0, 3, 0] ![0, 0, 0] (shapeCast S3x130x139 (extractStridedSlice S1x3x130x139 ![6, 0, 0, 0] z slices_S10x3x130x139_S1x3x130x139_6_0_0_0) shapeCasts_S1x3x130x139_S3x130x139) (sitofp .f32 (constantI S_ 32 0#32)) pads_S3x130x139_S3x139x139_000_630_000 h_S_)) (pad S3x139x139 ![0, 7, 0] ![0, 2, 0] ![0, 0, 0] (shapeCast S3x130x139 (extractStridedSlice S1x3x130x139 ![7, 0, 0, 0] z slices_S10x3x130x139_S1x3x130x139_7_0_0_0) shapeCasts_S1x3x130x139_S3x130x139) (sitofp .f32 (constantI S_ 32 0#32)) pads_S3x130x139_S3x139x139_000_720_000 h_S_)) (pad S3x139x139 ![0, 8, 0] ![0, 1, 0] ![0, 0, 0] (shapeCast S3x130x139 (extractStridedSlice S1x3x130x139 ![8, 0, 0, 0] z slices_S10x3x130x139_S1x3x130x139_8_0_0_0) shapeCasts_S1x3x130x139_S3x130x139) (sitofp .f32 (constantI S_ 32 0#32)) pads_S3x130x139_S3x139x139_000_810_000 h_S_)) (pad S3x139x139 ![0, 9, 0] ![0, 0, 0] ![0, 0, 0] (shapeCast S3x130x139 (extractStridedSlice S1x3x130x139 ![9, 0, 0, 0] z slices_S10x3x130x139_S1x3x130x139_9_0_0_0) shapeCasts_S1x3x130x139_S3x130x139) (sitofp .f32 (constantI S_ 32 0#32)) pads_S3x130x139_S3x139x139_000_900_000 h_S_)

/-- The columns of ones added where they lie. -/
def countCols (z : FVec Ideal S10x10x130x130 .f32) : FVec Ideal S10x130x139 .f32 :=
  addf (addf (addf (addf (addf (addf (addf (addf (addf (addf (broadcastInDim S10x130x139 ![] bcast_S_S10x130x139 (constant S_ .f32 0x00000000#32)) (pad S10x130x139 ![0, 0, 0] ![0, 0, 9] ![0, 0, 0] (shapeCast S10x130x130 (extractStridedSlice S10x1x130x130 ![0, 0, 0, 0] z slices_S10x10x130x130_S10x1x130x130_0_0_0_0) shapeCasts_S10x1x130x130_S10x130x130) (sitofp .f32 (constantI S_ 32 0#32)) pads_S10x130x130_S10x130x139_000_000_090 h_S_)) (pad S10x130x139 ![0, 0, 1] ![0, 0, 8] ![0, 0, 0] (shapeCast S10x130x130 (extractStridedSlice S10x1x130x130 ![0, 1, 0, 0] z slices_S10x10x130x130_S10x1x130x130_0_1_0_0) shapeCasts_S10x1x130x130_S10x130x130) (sitofp .f32 (constantI S_ 32 0#32)) pads_S10x130x130_S10x130x139_000_000_180 h_S_)) (pad S10x130x139 ![0, 0, 2] ![0, 0, 7] ![0, 0, 0] (shapeCast S10x130x130 (extractStridedSlice S10x1x130x130 ![0, 2, 0, 0] z slices_S10x10x130x130_S10x1x130x130_0_2_0_0) shapeCasts_S10x1x130x130_S10x130x130) (sitofp .f32 (constantI S_ 32 0#32)) pads_S10x130x130_S10x130x139_000_000_270 h_S_)) (pad S10x130x139 ![0, 0, 3] ![0, 0, 6] ![0, 0, 0] (shapeCast S10x130x130 (extractStridedSlice S10x1x130x130 ![0, 3, 0, 0] z slices_S10x10x130x130_S10x1x130x130_0_3_0_0) shapeCasts_S10x1x130x130_S10x130x130) (sitofp .f32 (constantI S_ 32 0#32)) pads_S10x130x130_S10x130x139_000_000_360 h_S_)) (pad S10x130x139 ![0, 0, 4] ![0, 0, 5] ![0, 0, 0] (shapeCast S10x130x130 (extractStridedSlice S10x1x130x130 ![0, 4, 0, 0] z slices_S10x10x130x130_S10x1x130x130_0_4_0_0) shapeCasts_S10x1x130x130_S10x130x130) (sitofp .f32 (constantI S_ 32 0#32)) pads_S10x130x130_S10x130x139_000_000_450 h_S_)) (pad S10x130x139 ![0, 0, 5] ![0, 0, 4] ![0, 0, 0] (shapeCast S10x130x130 (extractStridedSlice S10x1x130x130 ![0, 5, 0, 0] z slices_S10x10x130x130_S10x1x130x130_0_5_0_0) shapeCasts_S10x1x130x130_S10x130x130) (sitofp .f32 (constantI S_ 32 0#32)) pads_S10x130x130_S10x130x139_000_000_540 h_S_)) (pad S10x130x139 ![0, 0, 6] ![0, 0, 3] ![0, 0, 0] (shapeCast S10x130x130 (extractStridedSlice S10x1x130x130 ![0, 6, 0, 0] z slices_S10x10x130x130_S10x1x130x130_0_6_0_0) shapeCasts_S10x1x130x130_S10x130x130) (sitofp .f32 (constantI S_ 32 0#32)) pads_S10x130x130_S10x130x139_000_000_630 h_S_)) (pad S10x130x139 ![0, 0, 7] ![0, 0, 2] ![0, 0, 0] (shapeCast S10x130x130 (extractStridedSlice S10x1x130x130 ![0, 7, 0, 0] z slices_S10x10x130x130_S10x1x130x130_0_7_0_0) shapeCasts_S10x1x130x130_S10x130x130) (sitofp .f32 (constantI S_ 32 0#32)) pads_S10x130x130_S10x130x139_000_000_720 h_S_)) (pad S10x130x139 ![0, 0, 8] ![0, 0, 1] ![0, 0, 0] (shapeCast S10x130x130 (extractStridedSlice S10x1x130x130 ![0, 8, 0, 0] z slices_S10x10x130x130_S10x1x130x130_0_8_0_0) shapeCasts_S10x1x130x130_S10x130x130) (sitofp .f32 (constantI S_ 32 0#32)) pads_S10x130x130_S10x130x139_000_000_810 h_S_)) (pad S10x130x139 ![0, 0, 9] ![0, 0, 0] ![0, 0, 0] (shapeCast S10x130x130 (extractStridedSlice S10x1x130x130 ![0, 9, 0, 0] z slices_S10x10x130x130_S10x1x130x130_0_9_0_0) shapeCasts_S10x1x130x130_S10x130x130) (sitofp .f32 (constantI S_ 32 0#32)) pads_S10x130x130_S10x130x139_000_000_900 h_S_)

/-- The rows of ones added where they lie. -/
def countRows (z : FVec Ideal S10x130x139 .f32) : FVec Ideal S139x139 .f32 :=
  addf (addf (addf (addf (addf (addf (addf (addf (addf (addf (broadcastInDim S139x139 ![] bcast_S_S139x139 (constant S_ .f32 0x00000000#32)) (pad S139x139 ![0, 0] ![9, 0] ![0, 0] (shapeCast S130x139 (extractStridedSlice S1x130x139 ![0, 0, 0] z slices_S10x130x139_S1x130x139_0_0_0) shapeCasts_S1x130x139_S130x139) (sitofp .f32 (constantI S_ 32 0#32)) pads_S130x139_S139x139_090_000 h_S_)) (pad S139x139 ![1, 0] ![8, 0] ![0, 0] (shapeCast S130x139 (extractStridedSlice S1x130x139 ![1, 0, 0] z slices_S10x130x139_S1x130x139_1_0_0) shapeCasts_S1x130x139_S130x139) (sitofp .f32 (constantI S_ 32 0#32)) pads_S130x139_S139x139_180_000 h_S_)) (pad S139x139 ![2, 0] ![7, 0] ![0, 0] (shapeCast S130x139 (extractStridedSlice S1x130x139 ![2, 0, 0] z slices_S10x130x139_S1x130x139_2_0_0) shapeCasts_S1x130x139_S130x139) (sitofp .f32 (constantI S_ 32 0#32)) pads_S130x139_S139x139_270_000 h_S_)) (pad S139x139 ![3, 0] ![6, 0] ![0, 0] (shapeCast S130x139 (extractStridedSlice S1x130x139 ![3, 0, 0] z slices_S10x130x139_S1x130x139_3_0_0) shapeCasts_S1x130x139_S130x139) (sitofp .f32 (constantI S_ 32 0#32)) pads_S130x139_S139x139_360_000 h_S_)) (pad S139x139 ![4, 0] ![5, 0] ![0, 0] (shapeCast S130x139 (extractStridedSlice S1x130x139 ![4, 0, 0] z slices_S10x130x139_S1x130x139_4_0_0) shapeCasts_S1x130x139_S130x139) (sitofp .f32 (constantI S_ 32 0#32)) pads_S130x139_S139x139_450_000 h_S_)) (pad S139x139 ![5, 0] ![4, 0] ![0, 0] (shapeCast S130x139 (extractStridedSlice S1x130x139 ![5, 0, 0] z slices_S10x130x139_S1x130x139_5_0_0) shapeCasts_S1x130x139_S130x139) (sitofp .f32 (constantI S_ 32 0#32)) pads_S130x139_S139x139_540_000 h_S_)) (pad S139x139 ![6, 0] ![3, 0] ![0, 0] (shapeCast S130x139 (extractStridedSlice S1x130x139 ![6, 0, 0] z slices_S10x130x139_S1x130x139_6_0_0) shapeCasts_S1x130x139_S130x139) (sitofp .f32 (constantI S_ 32 0#32)) pads_S130x139_S139x139_630_000 h_S_)) (pad S139x139 ![7, 0] ![2, 0] ![0, 0] (shapeCast S130x139 (extractStridedSlice S1x130x139 ![7, 0, 0] z slices_S10x130x139_S1x130x139_7_0_0) shapeCasts_S1x130x139_S130x139) (sitofp .f32 (constantI S_ 32 0#32)) pads_S130x139_S139x139_720_000 h_S_)) (pad S139x139 ![8, 0] ![1, 0] ![0, 0] (shapeCast S130x139 (extractStridedSlice S1x130x139 ![8, 0, 0] z slices_S10x130x139_S1x130x139_8_0_0) shapeCasts_S1x130x139_S130x139) (sitofp .f32 (constantI S_ 32 0#32)) pads_S130x139_S139x139_810_000 h_S_)) (pad S139x139 ![9, 0] ![0, 0] ![0, 0] (shapeCast S130x139 (extractStridedSlice S1x130x139 ![9, 0, 0] z slices_S10x130x139_S1x130x139_9_0_0) shapeCasts_S1x130x139_S130x139) (sitofp .f32 (constantI S_ 32 0#32)) pads_S130x139_S139x139_900_000 h_S_)

/-- `f k`, if the tile of 130 placed at `k` holds `j`. -/
def at130 (f : ℕ → ℕ → EReal) (j k : ℕ) : EReal := if k ≤ j ∧ j - k < 130 then f k (j - k) else 0

theorem placeCols_val (z : FVec Ideal S10x10x3x130x130 .f32) (r : Fin 10) (e : Fin 3) (p : Fin 130) (j : Fin 139) (f : ℕ → ℕ → EReal)
    (hz : ∀ (c : Fin 10) (q : Fin 130), z (ix5 r c e p q) = f c.val q.val) :
    placeCols z (ix4 r e p j) = ∑ c ∈ Finset.range 10, at130 f j.val c := by
  have h0 := zero_word
  unfold placeCols
  generalize (sitofp .f32 (constantI S_ 32 0#32) : FVec Ideal S_ .f32) = v at h0 ⊢
  pointwise
  simp only [hz, h0]
  simp [at130, Finset.sum_range_succ]

theorem placeRows_val (z : FVec Ideal S10x3x130x139 .f32) (e : Fin 3) (i j : Fin 139) (f : ℕ → ℕ → EReal)
    (hz : ∀ (r : Fin 10) (p : Fin 130), z (ix4 r e p j) = f r.val p.val) :
    placeRows z (ix3 e i j) = ∑ r ∈ Finset.range 10, at130 f i.val r := by
  have h0 := zero_word
  unfold placeRows
  generalize (sitofp .f32 (constantI S_ 32 0#32) : FVec Ideal S_ .f32) = v at h0 ⊢
  pointwise
  simp only [hz, h0]
  simp [at130, Finset.sum_range_succ]

theorem countCols_val (z : FVec Ideal S10x10x130x130 .f32) (r : Fin 10) (p : Fin 130) (j : Fin 139) (f : ℕ → ℕ → EReal)
    (hz : ∀ (c : Fin 10) (q : Fin 130), z (ix4 r c p q) = f c.val q.val) :
    countCols z (ix3 r p j) = ∑ c ∈ Finset.range 10, at130 f j.val c := by
  have h0 := zero_word
  unfold countCols
  generalize (sitofp .f32 (constantI S_ 32 0#32) : FVec Ideal S_ .f32) = v at h0 ⊢
  pointwise
  simp only [hz, h0]
  simp [at130, Finset.sum_range_succ]

theorem countRows_val (z : FVec Ideal S10x130x139 .f32) (i j : Fin 139) (f : ℕ → ℕ → EReal)
    (hz : ∀ (r : Fin 10) (p : Fin 130), z (ix3 r p j) = f r.val p.val) :
    countRows z (ix2 i j) = ∑ r ∈ Finset.range 10, at130 f i.val r := by
  have h0 := zero_word
  unfold countRows
  generalize (sitofp .f32 (constantI S_ 32 0#32) : FVec Ideal S_ .f32) = v at h0 ⊢
  pointwise
  simp only [hz, h0]
  simp [at130, Finset.sum_range_succ]

variable (V : Valuation τ sig (Elt Ideal))

/-- Tiles placed by rows and columns, read inside the image, are tiles inside the image. -/
theorem placed (g : ℕ → ℕ → ℕ → ℕ → EReal) (i j : ℕ) :
    ∑ r ∈ Finset.range 10, at130 (fun r p => ∑ c ∈ Finset.range 10, at130 (fun c q => g r c p q) (j + 5) c) (i + 5) r
      = ∑ r ∈ Finset.range 10, ∑ c ∈ Finset.range 10,
          if In (i + 16 + 5 - r) (j + 16 + 5 - c) then g r c (i + 5 - r) (j + 5 - c) else 0 := by
  refine Finset.sum_congr rfl fun r hr => ?_
  rw [Finset.mem_range] at hr
  unfold at130
  by_cases h1 : r ≤ i + 5 ∧ i + 5 - r < 130
  · rw [if_pos h1]
    refine Finset.sum_congr rfl fun c hc => ?_
    rw [Finset.mem_range] at hc
    by_cases h2 : c ≤ j + 5 ∧ j + 5 - c < 130
    · rw [if_pos h2, if_pos (by unfold In; omega)]
    · rw [if_neg h2, if_neg (by unfold In; omega)]
  · rw [if_neg h1]
    refine (Finset.sum_eq_zero fun c hc => ?_).symm
    rw [Finset.mem_range] at hc
    rw [if_neg (by unfold In; omega)]

theorem v168_val (r : Fin 10) (e : Fin 3) (p : Fin 130) (j : Fin 139) : res_main_v168 V (ix4 r e p j)
    = ∑ c ∈ Finset.range 10, at130 (fun c q => entry V e r.val c p.val q) j.val c :=
  placeCols_val (res_main_v127 V) r e p j (fun c q => entry V e r.val c p.val q) fun c q => v127_val V r c e p q

theorem rows_val (e : Fin 3) (i j : Fin 139) : placeRows (res_main_v168 V) (ix3 e i j)
    = ∑ r ∈ Finset.range 10, at130 (fun r p => ∑ c ∈ Finset.range 10, at130 (fun c q => entry V e r c p q) j.val c) i.val r :=
  placeRows_val (res_main_v168 V) e i j _ fun r p => v168_val V r e p j

theorem counts_val (i j : Fin 139) : countRows (res_main_v252 V) (ix2 i j)
    = ∑ r ∈ Finset.range 10, at130 (fun _ _ => ∑ c ∈ Finset.range 10, at130 (fun _ _ => 1) j.val c) i.val r :=
  countRows_val (res_main_v252 V) i j (fun _ _ => ∑ c ∈ Finset.range 10, at130 (fun _ _ => 1) j.val c) fun r p =>
    countCols_val (res_main_v211 V) r p j (fun _ _ => 1) fun _ _ => Ideal.ofBits_one_f32

/-- The overlapping patches of a pixel, added up. -/
theorem overlap_val (e : Fin 3) (i j : ℕ) :
    ∑ r ∈ Finset.range 10, at130 (fun r p => ∑ c ∈ Finset.range 10, at130 (fun c q => entry V e r c p q) (j + 5) c) (i + 5) r
      = overlapped (wOf (argD V) (argT V) (argN V) (argZ V)) (embC (argX V) e) (i + 16) (j + 16) := by
  rw [placed (fun r c p q => entry V e r c p q)]
  unfold overlapped
  refine Finset.sum_congr rfl fun r hr => Finset.sum_congr rfl fun c hc => ?_
  rw [Finset.mem_range] at hr hc
  by_cases h : In (i + 16 + 5 - r) (j + 16 + 5 - c)
  · rw [if_pos h, if_pos h]
    unfold In at h
    unfold entry
    refine Finset.sum_congr rfl fun a _ => Finset.sum_congr rfl fun b _ => ?_
    rw [show i + 5 - r + 16 = i + 16 + 5 - r by omega, show j + 5 - c + 16 = j + 16 + 5 - c by omega,
      show i + 5 - r + r + a + 4 = i + 16 + a - 7 by omega, show j + 5 - c + c + b + 4 = j + 16 + b - 7 by omega]
  · rw [if_neg h, if_neg h]

/-- The plain program's quotient. -/
def quot (u : FVec Ideal S3x139x139 .f32) (w : FVec Ideal S139x139 .f32) : FVec Ideal S3x130x130 .f32 :=
  Host.divf (extractStridedSlice S3x130x130 ![0, 5, 5] u slices_S3x139x139_S3x130x130_0_5_5) (broadcastInDim S3x130x130 ![0, 1, 2] bcast_S1x130x130_S3x130x130_0_1_2 (broadcastInDim S1x130x130 ![1, 2] bcast_S130x130_S1x130x130_1_2 (extractStridedSlice S130x130 ![5, 5] w slices_S139x139_S130x130_5_5)))

theorem quot_val (u : FVec Ideal S3x139x139 .f32) (w : FVec Ideal S139x139 .f32) (f g : ℕ → ℕ → EReal) (e : Fin 3)
    (hu : ∀ i j : Fin 139, u (ix3 e i j) = f i.val j.val) (hw : ∀ i j : Fin 139, w (ix2 i j) = g i.val j.val) (i j : Fin 130) :
    quot u w (ix3 e i j) = Ideal.div (f (i.val + 5) (j.val + 5)) (g (i.val + 5) (j.val + 5)) := by
  unfold quot
  pointwise
  simp only [hu, hw, Nat.add_comm 5]

theorem v297_val (e : Fin 3) (i j : Fin 130) : res_main_v297 V (ix3 e i j)
    = Ideal.div (overlapped (wOf (argD V) (argT V) (argN V) (argZ V)) (embC (argX V) e) (i.val + 16) (j.val + 16))
        ((cntN (i.val + 16) * cntN (j.val + 16) : ℕ) : EReal) := by
  have h : res_main_v297 V = quot (placeRows (res_main_v168 V)) (countRows (res_main_v252 V)) := rfl
  rw [h, quot_val _ _
    (fun i j => ∑ r ∈ Finset.range 10, at130 (fun r p => ∑ c ∈ Finset.range 10, at130 (fun c q => entry V e r c p q) j c) i r)
    (fun i j => ∑ r ∈ Finset.range 10, at130 (fun _ _ => ∑ c ∈ Finset.range 10, at130 (fun _ _ => 1) j c) i r)
    e (rows_val V e) (counts_val V) i j]
  refine congrArg₂ Ideal.div (overlap_val V e i.val j.val) ?_
  exact (placed (fun _ _ _ _ => 1) i.val j.val).trans (count_eq (i.val + 16) (j.val + 16))

/-- The array that the plain program leaves. -/
def result : FVec Ideal S3x160x160 .f32 :=
  pad S3x160x160 ![0, 16, 16] ![0, 14, 14] ![0, 0, 0] (subf (res_main_v297 V) (res_main_v1 V) : FVec Ideal S3x130x130 .f32) (sitofp .f32 (constantI S_ 32 0#32)) pads_S3x130x130_S3x160x160_000_16140_16140 h_S_

/-- A pixel of the image, of the array that the plain program leaves. -/
theorem result_val (e : Fin 3) (I J : Fin 160) (hI : 16 ≤ I.val ∧ I.val < 146) (hJ : 16 ≤ J.val ∧ J.val < 146) :
    result V (ix3 e I J)
      = Ideal.div (overlapped (wOf (argD V) (argT V) (argN V) (argZ V)) (embC (argX V) e) I.val J.val) ((cntN I.val * cntN J.val : ℕ) : EReal)
        - embC (argX V) e I.val J.val := by
  have h1 := v297_val V
  have h2 := v1_val V
  unfold result
  obtain ⟨z, ez⟩ : ∃ z : FVec Ideal S3x130x130 .f32, res_main_v297 V = z := ⟨_, rfl⟩
  obtain ⟨y, ey⟩ : ∃ y : FVec Ideal S3x130x130 .f32, res_main_v1 V = y := ⟨_, rfl⟩
  rw [ez] at h1 ⊢
  rw [ey] at h2 ⊢
  generalize (sitofp .f32 (constantI S_ 32 0#32) : FVec Ideal S_ .f32) = v
  pointwise
  rw [dif_pos (by omega), h1, h2]
  rw [show I.val - 16 + 16 = I.val by omega, show J.val - 16 + 16 = J.val by omega]

end Cert.Agg.Ref
end
-- ==== Proof.AggAgree.lean ====
/- Kernel and plain program leave the same aggregation in the image, from finite arrays whose inverse normalizers vanish
   around the image. -/
module

public import proofs.«01_k».proof.Defs
public import proofs.«01_k».proof.Proof.Gen.Pre_inside
public import proofs.«01_k».proof.Proof.Gen.On_image2
public import proofs.«01_k».proof.Proof.Gen.Kernel2Ideal.Value
public import proofs.«01_k».proof.Proof.AggPlace
public import proofs.«01_k».proof.Proof.Agree
public import Idealize.ShloMosaic.Lib.ReduceAll

@[expose] public section
set_option maxRecDepth 16384
noncomputable section
namespace Cert.Agg
open Cert.Dist Idealize.ShloMosaic Idealize.ShloMosaic.TcCoe Idealize.SL.Sem Idealize.ShloMosaic.StableHlo

/-- What the precondition says: real numbers everywhere, and zeros around the image among the inverse normalizers. -/
theorem inside_args (x : FVec Ideal ⟨4, ![1, 3, 128, 128]⟩ .f32) (D : FVec Ideal ⟨3, ![225, 160, 160]⟩ .f32)
    (T N Z : FVec Ideal ⟨2, ![160, 160]⟩ .f32) (h : Cert.Pre_inside.fn (F := Ideal) x D T N Z ix0 = 1#1) :
    (∀ i, Fin' (x i)) ∧ (∀ i, Fin' (D i)) ∧ (∀ i, Fin' (N i)) ∧ (∀ i, Fin' (Z i))
      ∧ ∀ I J : Fin 160, ¬((16 ≤ I.val ∧ I.val < 146) ∧ (16 ≤ J.val ∧ J.val < 146)) → Z (ix2 I J) = 0 := by
  have hand : ∀ a b c d e : BitVec 1, IntOp.andi (IntOp.andi (IntOp.andi (IntOp.andi a b) c) d) e = 1#1
      → a = 1#1 ∧ b = 1#1 ∧ c = 1#1 ∧ d = 1#1 ∧ e = 1#1 := by decide
  obtain ⟨h1, h2, h3, h4, h5⟩ := hand _ _ _ _ _ h
  refine ⟨fun i => fin_of_lt _ (Host.reduce_andi_all _ _ _ _ _ h1 i), fun i => fin_of_lt _ (Host.reduce_andi_all _ _ _ _ _ h2 i),
    fun i => fin_of_lt _ (Host.reduce_andi_all _ _ _ _ _ h3 i), fun i => fin_of_lt _ (Host.reduce_andi_all _ _ _ _ _ h4 i), fun I J hIJ => ?_⟩
  have hor : ∀ a b c d e : BitVec 1, IntOp.ori (IntOp.andi (IntOp.andi (IntOp.andi a b) c) d) e = 1#1
      → (IntOp.andi a b = 1#1 ∧ IntOp.andi c d = 1#1) ∨ e = 1#1 := by decide
  rcases hor _ _ _ _ _ (Host.reduce_andi_all _ _ _ _ _ h5 (ix2 I J)) with ⟨ha, hb⟩ | hz
  · exact absurd ⟨image_word I ha, image_word J hb⟩ hIJ
  · have hz' : BitVec.ofBool (decide ((Z (ix2 I J) : EReal) = Ideal.ofBits .f32 0x00000000#32)) = 1#1 := hz
    have hb : ∀ b : Bool, BitVec.ofBool b = 1#1 → b = true := by decide
    exact (of_decide_eq_true (hb _ hz')).trans Ideal.ofBits_zero_f32

/-- An index that the mask selects lies in the image. -/
theorem image_val (x : FVec Ideal ⟨4, ![1, 3, 128, 128]⟩ .f32) (D : FVec Ideal ⟨3, ![225, 160, 160]⟩ .f32)
    (T N Z : FVec Ideal ⟨2, ![160, 160]⟩ .f32) (e : Fin 3) (I J : Fin 160)
    (h : Cert.On_image2.fn (F := Ideal) x D T N Z (ix3 e I J) = 1#1) : (16 ≤ I.val ∧ I.val < 146) ∧ (16 ≤ J.val ∧ J.val < 146) := by
  have h4 : ∀ a b c d : BitVec 1, IntOp.andi (IntOp.andi (IntOp.andi a b) c) d = 1#1 → IntOp.andi a b = 1#1 ∧ IntOp.andi c d = 1#1 := by decide
  obtain ⟨h1, h2⟩ := h4 _ _ _ _ h
  exact ⟨image_word I h1, image_word J h2⟩

/-- A pixel around the image has no weights. -/
theorem wOf_zero (D : FVec Ideal ⟨3, ![225, 160, 160]⟩ .f32) (T N Z : FVec Ideal ⟨2, ![160, 160]⟩ .f32)
    (hZ : ∀ I J : Fin 160, ¬((16 ≤ I.val ∧ I.val < 146) ∧ (16 ≤ J.val ∧ J.val < 146)) → Z (ix2 I J) = 0)
    (a b p q : ℕ) (hp : p < 160) (hq : q < 160) (h : ¬In p q) : wOf D T N Z a b p q = 0 := by
  have hz : at2 Z p q = 0 := by
    unfold at2
    refine hZ (wrap p) (wrap q) ?_
    have e1 : (wrap p).val = p := Nat.mod_eq_of_lt hp
    have e2 : (wrap q).val = q := Nat.mod_eq_of_lt hq
    rw [e1, e2]
    exact h
  unfold wOf
  rw [hz]
  exact wgt_zero _ _ _

/-- The plain program ends with its arguments as they were, and it has no semaphores. -/
theorem plain_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's array and the plain program's agree in the image. -/
theorem agree : Cert.algebraic_Kernel2Ideal_Reference2Ideal_on_image2_pre_inside := by
  intro m g m' g' hpre hm
  refine ⟨fun c => (Cert.Kernel2Ideal.Gen.dats m 0 c).arrAt 6 Cert.Kernel2Ideal.cfg0.N, ?_, ?_⟩
  · exact (θ_run _ _ _).mono (fun r h c => ⟨fun i _ => congrFun (h c).1 i, (h c).2⟩) (Cert.Kernel2Ideal.Value.run_blocks m g)
  · refine (θ_run _ _ _).mono (fun r h c => ⟨fun i hi => ?_, (h c).2⟩) (Cert.Reference2Ideal.Value.run m' g')
    have hr : r.2.mem ((c.tc : Thread Cert.Reference2Ideal.nD Cert.Reference2Ideal.τ).loc Cert.Reference2Ideal.main_v299)
        = Ref.result (launchContents m' c) := (h c).1
    rw [hr]
    obtain ⟨e, I, J, rfl⟩ : ∃ (e : Fin 3) (I J : Fin 160), i = ix3 e I J := ⟨i 0, i 1, i 2, by
      funext a
      match a with
      | ⟨0, _⟩ => rfl
      | ⟨1, _⟩ => rfl
      | ⟨2, _⟩ => rfl⟩
    obtain ⟨hI, hJ⟩ := image_val _ _ _ _ _ e I J hi
    obtain ⟨hx, hD, hN, hZ, h0⟩ := inside_args (m ((c.tc : Thread Cert.Kernel2Ideal.nD Cert.Kernel2Ideal.τ).loc Cert.Kernel2Ideal.main_arg0))
      (entD m c) (entT m c) (entN m c) (entZ m c) (congrFun (hpre c) ix0)
    clear hr
    refine (Ref.result_val _ e I J hI hJ).trans (Eq.trans ?_ (kernel_val m c hD hN hZ e I J hI hJ).symm)
    have e0 : Ref.argX (launchContents m' c) = m ((c.tc : Thread Cert.Kernel2Ideal.nD Cert.Kernel2Ideal.τ).loc Cert.Kernel2Ideal.main_arg0) := (hm c).1
    have e1 : Ref.argD (launchContents m' c) = entD m c := (hm c).2.1
    have e2 : Ref.argT (launchContents m' c) = entT m c := (hm c).2.2.1
    have e3 : Ref.argN (launchContents m' c) = entN m c := (hm c).2.2.2.1
    have e4 : Ref.argZ (launchContents m' c) = entZ m c := (hm c).2.2.2.2
    rw [e0, e1, e2, e3, e4, overlapped_eq _ _ (wOf_fin _ _ _ _ hD hN hZ) (embC_fin _ hx e) I.val J.val
      fun a b r s hr hs h => wOf_zero _ _ _ _ h0 a b _ _ (by omega) (by omega) h]

end Cert.Agg
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.On_image
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Pre_inside
public import proofs.«01_k».proof.Proof.Gen.On_image2
public import proofs.«01_k».proof.Proof.Gen.Kernel2Ideal.Value
public import proofs.«01_k».proof.Proof.Gen.Reference2Ideal.Run
public import proofs.«01_k».proof.Proof.Agree
public import proofs.«01_k».proof.Proof.AggAgree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Pre_finite.Gen.facts, Cert.Pre_inside.Gen.facts, Cert.On_image.Gen.facts, Cert.On_image2.Gen.facts, by
  exact ⟨fun m ρ _ => Cert.Kernel.Gen.frame m ρ, fun m ρ _ => Cert.KernelIdeal.Gen.frame m ρ, fun m ρ _ => Cert.KernelIdeal.Gen.frame m ρ,
    Cert.Dist.plain_frame, fun m ρ _ => Cert.Dist.plain_frame m ρ trivial,
    fun m ρ _ => Cert.Kernel2.Gen.frame m ρ, fun m ρ _ => Cert.Kernel2Ideal.Gen.frame m ρ, fun m ρ _ => Cert.Kernel2Ideal.Gen.frame m ρ,
    Cert.Agg.plain_frame, fun m ρ _ => Cert.Agg.plain_frame m ρ trivial,
    trivial, Cert.Dist.agree, trivial, Cert.Agg.agree⟩⟩

end Cert.Proof

end
